-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_real_KernelIdeal [hPre_scores_real_KernelIdeal : Cert.Pre_scores_real_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_real_ReferenceIdeal [hPre_scores_real_ReferenceIdeal : Cert.Pre_scores_real_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_real_KernelIdeal [hKernelIdeal : Cert.KernelIdeal.Facts] [hPre_scores_real_KernelIdeal : Cert.Pre_scores_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_real_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_real_ReferenceIdeal [hReferenceIdeal : Cert.ReferenceIdeal.Facts] [hPre_scores_real_ReferenceIdeal : Cert.Pre_scores_real_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_real_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_real_KernelIdeal [hKernelIdeal : Cert.KernelIdeal.Facts] [hReferenceIdeal : Cert.ReferenceIdeal.Facts] [hPre_scores_real_KernelIdeal : Cert.Pre_scores_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_real_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_real_KernelIdeal : Cert.Pre_scores_real_KernelIdeal.Facts) (hPre_scores_real_ReferenceIdeal : Cert.Pre_scores_real_ReferenceIdeal.Facts),
    quiescent_Kernel (hKernel := hKernel)
    ∧ quiescent_KernelIdeal (hKernelIdeal := hKernelIdeal)
    ∧ quiescent_KernelIdeal_pre_scores_real_KernelIdeal (hKernelIdeal := hKernelIdeal) (hPre_scores_real_KernelIdeal := hPre_scores_real_KernelIdeal)
    ∧ quiescent_ReferenceIdeal (hReferenceIdeal := hReferenceIdeal)
    ∧ quiescent_ReferenceIdeal_pre_scores_real_ReferenceIdeal (hReferenceIdeal := hReferenceIdeal) (hPre_scores_real_ReferenceIdeal := hPre_scores_real_ReferenceIdeal)
    ∧ preserves_Kernel_KernelIdeal
    ∧ algebraic_KernelIdeal_ReferenceIdeal_pre_scores_real_KernelIdeal (hKernelIdeal := hKernelIdeal) (hReferenceIdeal := hReferenceIdeal) (hPre_scores_real_KernelIdeal := hPre_scores_real_KernelIdeal)
-- ==== Pre_scores_real_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_scores_real_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S16x16x64x1024 : Shape := ⟨4, ![16, 16, 64, 1024]⟩
abbrev S4x16x64x1024 : Shape := ⟨4, ![4, 16, 64, 1024]⟩
abbrev S4 : Shape := ⟨1, ![4]⟩
abbrev S16x16x64 : Shape := ⟨3, ![16, 16, 64]⟩
abbrev S2x16x16 : Shape := ⟨3, ![2, 16, 16]⟩
abbrev S6 : Shape := ⟨1, ![6]⟩
abbrev S_ : Shape := ⟨0, ![]⟩
abbrev S1 : Shape := ⟨1, ![1]⟩
abbrev S1x16x64x1024 : Shape := ⟨4, ![1, 16, 64, 1024]⟩
abbrev S16x64x1024 : Shape := ⟨3, ![16, 64, 1024]⟩
abbrev S1x1x16x64 : Shape := ⟨4, ![1, 1, 16, 64]⟩
abbrev S1x16x64 : Shape := ⟨3, ![1, 16, 64]⟩
abbrev S16x1x64 : Shape := ⟨3, ![16, 1, 64]⟩
abbrev S16x1x1024 : Shape := ⟨3, ![16, 1, 1024]⟩
abbrev S16x1 : Shape := ⟨2, ![16, 1]⟩
abbrev S16x1x1 : Shape := ⟨3, ![16, 1, 1]⟩
abbrev S16x64 : Shape := ⟨2, ![16, 64]⟩
abbrev S16 : Shape := ⟨1, ![16]⟩
abbrev S1x1x16 : Shape := ⟨3, ![1, 1, 16]⟩
abbrev S8x16x64 : Shape := ⟨3, ![8, 16, 64]⟩
abbrev S2x8x16 : Shape := ⟨3, ![2, 8, 16]⟩
abbrev S1x16x16 : Shape := ⟨3, ![1, 16, 16]⟩
abbrev S16x16 : Shape := ⟨2, ![16, 16]⟩
abbrev S16x16x1 : Shape := ⟨3, ![16, 16, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x16x64x1024, .f32⟩
  | .hbm, ⟨4, _⟩ => ⟨S16x16x64x1024, .f32⟩
  | .hbm, ⟨5, _⟩ => ⟨S16x1x16x64, .f32⟩
  | .local _ .vmem, ⟨0, _⟩ => ⟨S16x1x16x64, .f32⟩
  | .local _ .vmem, ⟨1, _⟩ => ⟨S16x1x16x64, .f32⟩
  | .local _ .vmem, ⟨2, _⟩ => ⟨S4x16x64x1024, .f32⟩
  | .local _ .vmem, ⟨3, _⟩ => ⟨S4x16x64x1024, .f32⟩
  | .local _ .vmem, ⟨4, _⟩ => ⟨S16x16x64, .f32⟩
  | .local _ .vmem, ⟨5, _⟩ => ⟨S2x16x16, .f32⟩
  | .local _ .vmem, ⟨6, _⟩ => ⟨S16x16x64, .f32⟩
  | .local _ .vmem, ⟨7, _⟩ => ⟨S2x16x16, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v20 : BitVec 32 := Scalar.muli v8 c2_i32_14
  let v21 : BitVec 32 := Scalar.addi c0_i32_15 v20
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v22 : BitVec 32 := Scalar.muli v9 c1_i32_16
  let v23 : BitVec 32 := Scalar.addi v21 v22
  v23.toNat
def k0_off1 (d0 : Dev nD) (c0_i32_17 : BitVec 32) : Fin 4 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let v24 : BitVec 32 := Scalar.addi v10 c0_i32_17
  let c0_i32_23 : BitVec 32 := 0#32
  let c0_i32_24 : BitVec 32 := 0#32
  let c0_i32_25 : BitVec 32 := 0#32
  ![v24.toNat, 0, 0, 0]
def k0_off2 (d0 : Dev nD) (c0_i32_107 : BitVec 32) : Fin 4 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let v94 : BitVec 32 := Scalar.addi v10 c0_i32_107
  let v95 : Index := Scalar.indexCast v94
  let c0 : Index := 0#32
  let c0_108 : Index := 0#32
  let c0_109 : Index := 0#32
  ![v95.toNat, 0, 0, 0]
def k0_off3 (d0 : Dev nD) (c0_i32_122 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let v117 : BitVec 32 := Scalar.addi v10 c0_i32_122
  let v118 : Index := Scalar.indexCast v117
  let c0_123 : Index := 0#32
  let c0_124 : Index := 0#32
  ![v118.toNat, 0, 0]
def k0_off4 (d0 : Dev nD) (c0_i32_125 : BitVec 32) : Fin 3 → Nat :=
  let c0_126 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let v123 : BitVec 32 := Scalar.addi v10 c0_i32_125
  let v124 : Index := Scalar.indexCast v123
  let c0_127 : Index := 0#32
  ![0, v124.toNat, 0]
def k0_off5 (d0 : Dev nD) (c0_i32_128 : BitVec 32) : Fin 3 → Nat :=
  let c1 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let v129 : BitVec 32 := Scalar.addi v10 c0_i32_128
  let v130 : Index := Scalar.indexCast v129
  let c0_129 : Index := 0#32
  ![1, v130.toNat, 0]
def k0_off6 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let c0_i32_509 : BitVec 32 := 0#32
  let c0_i32_510 : BitVec 32 := 0#32
  ![v10.toNat, 0, 0]
def k0_dev4 (d0 : Dev nD) : Nat :=
  let c0_i32_507 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_506 : BitVec 32 := 2#32
  let v568 : BitVec 32 := Scalar.muli v6 c2_i32_506
  let v569 : BitVec 32 := Scalar.addi c0_i32_507 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v570 : BitVec 32 := Scalar.muli v5 c1_i32_508
  let v571 : BitVec 32 := Scalar.addi v569 v570
  v571.toNat
def k0_off7 (d0 : Dev nD) : Fin 3 → Nat :=
  let c0_i32_518 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v10 : BitVec 32 := Scalar.muli v2 c8_i32
  let c0_i32_519 : BitVec 32 := 0#32
  ![0, v10.toNat, 0]
def k0_dev5 (d0 : Dev nD) : Nat :=
  let c0_i32_516 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_515 : BitVec 32 := 2#32
  let v578 : BitVec 32 := Scalar.muli v6 c2_i32_515
  let v579 : BitVec 32 := Scalar.addi c0_i32_516 v578
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_517 : BitVec 32 := 1#32
  let v580 : BitVec 32 := Scalar.muli v5 c1_i32_517
  let v581 : BitVec 32 := Scalar.addi v579 v580
  v581.toNat
def k0_dev6 (d0 : Dev nD) : Nat :=
  let c0_i32_525 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_524 : BitVec 32 := 2#32
  let v588 : BitVec 32 := Scalar.muli v2 c2_i32_524
  let v589 : BitVec 32 := Scalar.addi c0_i32_525 v588
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_526 : BitVec 32 := 1#32
  let v590 : BitVec 32 := Scalar.muli v7 c1_i32_526
  let v591 : BitVec 32 := Scalar.addi v589 v590
  v591.toNat
def k0_dev7 (d0 : Dev nD) : Nat :=
  let c0_i32_534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_533 : BitVec 32 := 2#32
  let v598 : BitVec 32 := Scalar.muli v2 c2_i32_533
  let v599 : BitVec 32 := Scalar.addi c0_i32_534 v598
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_535 : BitVec 32 := 1#32
  let v600 : BitVec 32 := Scalar.muli v7 c1_i32_535
  let v601 : BitVec 32 := Scalar.addi v599 v600
  v601.toNat
def k0_dev8 (d0 : Dev nD) : Nat :=
  let c0_i32_543 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_542 : BitVec 32 := 2#32
  let v608 : BitVec 32 := Scalar.muli v8 c2_i32_542
  let v609 : BitVec 32 := Scalar.addi c0_i32_543 v608
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_544 : BitVec 32 := 1#32
  let v610 : BitVec 32 := Scalar.muli v9 c1_i32_544
  let v611 : BitVec 32 := Scalar.addi v609 v610
  v611.toNat
def k0_dev9 (d0 : Dev nD) : Nat :=
  let c0_i32_552 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_551 : BitVec 32 := 2#32
  let v618 : BitVec 32 := Scalar.muli v8 c2_i32_551
  let v619 : BitVec 32 := Scalar.addi c0_i32_552 v618
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_553 : BitVec 32 := 1#32
  let v620 : BitVec 32 := Scalar.muli v9 c1_i32_553
  let v621 : BitVec 32 := Scalar.addi v619 v620
  v621.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
  The kernel's body as a short sequence of named steps: the entry barrier, the copies of a row of K and V into a
  ring slot, the work on one row, the six copies to the other devices, and the merge.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal

open Cert.KernelIdeal.Gen
open Idealize.ShloMosaic Idealize.ShloMosaic.TcCoe
open Idealize.SL.Sem

variable {F : FTy → Type} [FloatOps F]

/-- The programs of this kernel's body. -/
abbrev P (F : FTy → Type) := Prog (TpuEff nD τ sig (Elt F) Λ₀ .tc) PUnit

/-! ## The buffers and semaphores -/

abbrev qM : Memref sig .tc .vmem S16x1x16x64 .f32 := Memref.whole cc0_stg0_0
abbrev kM : Memref sig .tc .hbm S16x16x64x1024 .f32 := Memref.whole main_v1
abbrev vM : Memref sig .tc .hbm S16x16x64x1024 .f32 := Memref.whole main_v2
abbrev oM : Memref sig .tc .vmem S16x1x16x64 .f32 := Memref.whole cc0_stg1_0
abbrev kB : Memref sig .tc .vmem S4x16x64x1024 .f32 := Memref.whole cc0_scratch0
abbrev vB : Memref sig .tc .vmem S4x16x64x1024 .f32 := Memref.whole cc0_scratch1
abbrev nM : Memref sig .tc .vmem S16x16x64 .f32 := Memref.whole cc0_scratch4
abbrev sM : Memref sig .tc .vmem S2x16x16 .f32 := Memref.whole cc0_scratch5
abbrev rnM : Memref sig .tc .vmem S16x16x64 .f32 := Memref.whole cc0_scratch6
abbrev rsM : Memref sig .tc .vmem S2x16x16 .f32 := Memref.whole cc0_scratch7

/-- The ring slot of row `j`. -/
def slotOf (j : Fin 8) : Fin 4 := ⟨j.val % 4, Nat.mod_lt _ (by decide)⟩

theorem slot_inb (s : Fin 4) : ∀ a, (![s.val, 0, 0, 0] : Fin 4 → Nat) a + S1x16x64x1024.size a ≤ S4x16x64x1024.size a := by
  revert s; decide
theorem sem4_inb (s : Fin 4) : ∀ a, (![s.val] : Fin 1 → Nat) a + S1.size a ≤ S4.size a := by revert s; decide
theorem sem6_inb (s : Fin 6) : ∀ a, (![s.val] : Fin 1 → Nat) a + S1.size a ≤ S6.size a := by revert s; decide

/-- The rectangle of a ring slot. -/
abbrev slotRect (s : Fin 4) : Rect S4x16x64x1024 := Rect.unit (s := S4x16x64x1024) ![s.val, 0, 0, 0] S1x16x64x1024.size (slot_inb s)
/-- The rectangle of a row of K or V. -/
abbrev rowRect (c : Dev nD) (j : Fin 8) : Rect S16x16x64x1024 :=
  Rect.unit (s := S16x16x64x1024) (k0_off1 c (BitVec.ofNat 32 j.val)) S1x16x64x1024.size (k0_off1_inb c j)

abbrev kSlot (s : Fin 4) : Memref sig .tc .vmem S16x64x1024 .f32 := (kB.slice (slotRect s) (fun _ => rfl)).squeeze S16x64x1024 squeezes_S1x16x64x1024_S16x64x1024
abbrev vSlot (s : Fin 4) : Memref sig .tc .vmem S16x64x1024 .f32 := (vB.slice (slotRect s) (fun _ => rfl)).squeeze S16x64x1024 squeezes_S1x16x64x1024_S16x64x1024
abbrev kRow (c : Dev nD) (j : Fin 8) : Memref sig .tc .hbm S16x64x1024 .f32 := (kM.slice (rowRect c j) (fun _ => rfl)).squeeze S16x64x1024 squeezes_S1x16x64x1024_S16x64x1024
abbrev vRow (c : Dev nD) (j : Fin 8) : Memref sig .tc .hbm S16x64x1024 .f32 := (vM.slice (rowRect c j) (fun _ => rfl)).squeeze S16x64x1024 squeezes_S1x16x64x1024_S16x64x1024
abbrev kSem (s : Fin 4) : DmaSem sig := ((cc0_scratch2.slice (Rect.unit (s := S4) ![s.val] S1.size (sem4_inb s))).squeeze S_ squeezes_S1_S_).sem
abbrev vSem (s : Fin 4) : DmaSem sig := ((cc0_scratch3.slice (Rect.unit (s := S4) ![s.val] S1.size (sem4_inb s))).squeeze S_ squeezes_S1_S_).sem
abbrev sendSem (k : Fin 6) : DmaSem sig := ((cc0_scratch8.slice (Rect.unit (s := S6) ![k.val] S1.size (sem6_inb k))).squeeze S_ squeezes_S1_S_).sem
abbrev recvSem (k : Fin 6) : DmaSem sig := ((cc0_scratch9.slice (Rect.unit (s := S6) ![k.val] S1.size (sem6_inb k))).squeeze S_ squeezes_S1_S_).sem
abbrev barSem : Sem sig := (SemArray.scalar (sig.barrier 0 rfl) : Sems sig S_).sem

/-- The rows of a numerator buffer that device `c` computes. -/
abbrev halfRectN (c : Dev nD) : Rect S16x16x64 := Rect.unit (s := S16x16x64) (k0_off6 c) S8x16x64.size (k0_off6_inb c)
/-- The columns of a statistics buffer that device `c` computes. -/
abbrev halfRectS (c : Dev nD) : Rect S2x16x16 := Rect.unit (s := S2x16x16) (k0_off7 c) S2x8x16.size (k0_off7_inb c)
/-- The part of a numerator buffer that device `c` computes. -/
abbrev halfN (M : Memref sig .tc .vmem S16x16x64 .f32) (c : Dev nD) : Memref sig .tc .vmem S8x16x64 .f32 := M.slice (halfRectN c) (fun _ => rfl)
/-- The part of a statistics buffer that device `c` computes. -/
abbrev halfS (M : Memref sig .tc .vmem S2x16x16 .f32) (c : Dev nD) : Memref sig .tc .vmem S2x8x16 .f32 := M.slice (halfRectS c) (fun _ => rfl)

abbrev qRect (c : Dev nD) (i : Fin 8) : Rect S16x1x16x64 := Rect.unit (s := S16x1x16x64) (k0_off2 c (BitVec.ofNat 32 i.val)) S1x1x16x64.size (k0_off2_inb c i)
abbrev nRect (c : Dev nD) (i : Fin 8) : Rect S16x16x64 := Rect.unit (s := S16x16x64) (k0_off3 c (BitVec.ofNat 32 i.val)) S1x16x64.size (k0_off3_inb c i)
abbrev mRect (c : Dev nD) (i : Fin 8) : Rect S2x16x16 := Rect.unit (s := S2x16x16) (k0_off4 c (BitVec.ofNat 32 i.val)) S1x1x16.size (k0_off4_inb c i)
abbrev lRect (c : Dev nD) (i : Fin 8) : Rect S2x16x16 := Rect.unit (s := S2x16x16) (k0_off5 c (BitVec.ofNat 32 i.val)) S1x1x16.size (k0_off5_inb c i)
abbrev allN : Rect S16x16x64 := Rect.unit (s := S16x16x64) ![0, 0, 0] S16x16x64.size inb_S16x16x64_S16x16x64_0_0_0
abbrev allO : Rect S16x1x16x64 := Rect.unit (s := S16x1x16x64) ![0, 0, 0, 0] S16x1x16x64.size inb_S16x1x16x64_S16x1x16x64_0_0_0_0
abbrev plane0 : Rect S2x16x16 := Rect.unit (s := S2x16x16) ![0, 0, 0] S1x16x16.size inb_S2x16x16_S1x16x16_0_0_0
abbrev plane1 : Rect S2x16x16 := Rect.unit (s := S2x16x16) ![1, 0, 0] S1x16x16.size inb_S2x16x16_S1x16x16_1_0_0

/-! ## The values stored for a row -/

/-- The numerators of a row of the batch from its queries, keys and values. -/
def rowN (q : Vec F S1x1x16x64 .f32) (k v : Vec F S1x16x64x1024 .f32) : FVec F S1x16x64 .f32 := k0_pay7 (k0_pay2 q) (k0_pay3 k) v
/-- The largest scores of a row of the batch. -/
def rowM (q : Vec F S1x1x16x64 .f32) (k : Vec F S1x16x64x1024 .f32) : FVec F S1x1x16 .f32 := k0_pay8 (k0_pay2 q) (k0_pay3 k)
/-- The sums of exponentials of a row of the batch. -/
def rowL (q : Vec F S1x1x16x64 .f32) (k : Vec F S1x16x64x1024 .f32) : FVec F S1x1x16 .f32 := k0_pay62 (k0_pay61 q k)

/-! ## The steps -/

/-- Start the copies of row `j` of K and V into their ring slot, then go on with `k`. -/
def startStep (c : Dev nD) (j : Fin 8) (k : P F) : P F :=
  Prog.op (.enqueueDma (kRow c j) (.here (kSlot (slotOf j))) (.dma (kSem (slotOf j))) ((View.wordExact_bits rfl).reshape _ _) ((View.wordExact_bits rfl).reshape _ _) ⟨Or.inl rfl, trivial⟩) fun _ =>
  Prog.op (.enqueueDma (vRow c j) (.here (vSlot (slotOf j))) (.dma (vSem (slotOf j))) ((View.wordExact_bits rfl).reshape _ _) ((View.wordExact_bits rfl).reshape _ _) ⟨Or.inl rfl, trivial⟩) fun _ => k

/-- Wait for the copies of row `i`, compute the row and store its numerators and statistics, then go on with `k`. -/
def rowStep (c : Dev nD) (i : Fin 8) (k : P F) : P F :=
  Prog.op (.waitDma2 (kSem (slotOf i)) (kRow c i) (kSlot (slotOf i)) ((View.wordExact_bits rfl).reshape _ _) ((View.wordExact_bits rfl).reshape _ _)) fun _ =>
  Prog.op (.waitDma2 (vSem (slotOf i)) (vRow c i) (vSlot (slotOf i)) ((View.wordExact_bits rfl).reshape _ _) ((View.wordExact_bits rfl).reshape _ _)) fun _ =>
  Prog.op (.load qM (qRect c i).toLoadRect (View.loadsAt_vmem h_S1x1x16x64)) fun q =>
  Prog.op (.load kB (slotRect (slotOf i)).toLoadRect (View.loadsAt_vmem h_S1x16x64x1024)) fun kk =>
  Prog.op (.load vB (slotRect (slotOf i)).toLoadRect (View.loadsAt_vmem h_S1x16x64x1024)) fun vv =>
  Prog.op (.load nM (nRect c i).toLoadRect (View.loadsAt_vmem h_S1x16x64)) fun _ =>
  Prog.op (.store nM (nRect c i) (rowN q kk vv) Finset.univ (View.stores_vmem_bits_univ h_S1x16x64 rfl) (.inl rfl)) fun _ =>
  Prog.op (.load sM (mRect c i).toLoadRect (View.loadsAt_vmem h_S1x1x16)) fun _ =>
  Prog.op (.store sM (mRect c i) (rowM q kk) Finset.univ (View.stores_vmem_bits_univ h_S1x1x16 rfl) (.inl rfl)) fun _ =>
  Prog.op (.load sM (lRect c i).toLoadRect (View.loadsAt_vmem h_S1x1x16)) fun _ =>
  Prog.op (.store sM (lRect c i) (rowL q kk) Finset.univ (View.stores_vmem_bits_univ h_S1x1x16 rfl) (.inl rfl)) fun _ => k

/-- The copies' destinations: the numerator buffer on the device sharing `y`, the received one elsewhere. -/
abbrev dstN (j : Fin 3) : Memref sig .tc .vmem S16x16x64 .f32 := match j with | 0 => nM | _ => rnM
abbrev dstS (j : Fin 3) : Memref sig .tc .vmem S2x16x16 .f32 := match j with | 0 => sM | _ => rsM
/-- The devices device `c` sends to. -/
def devN (j : Fin 3) (c : Dev nD) : Dev nD :=
  match j with | 0 => ⟨k0_dev4 c, k0_dev4_lt c⟩ | 1 => ⟨k0_dev6 c, k0_dev6_lt c⟩ | 2 => ⟨k0_dev8 c, k0_dev8_lt c⟩
def devS (j : Fin 3) (c : Dev nD) : Dev nD :=
  match j with | 0 => ⟨k0_dev5 c, k0_dev5_lt c⟩ | 1 => ⟨k0_dev7 c, k0_dev7_lt c⟩ | 2 => ⟨k0_dev9 c, k0_dev9_lt c⟩
/-- The semaphores of the copy of the numerators to the `j`-th device. -/
def evn (j : Fin 3) : Fin 6 := ⟨2 * j.val, by omega⟩
def odd (j : Fin 3) : Fin 6 := ⟨2 * j.val + 1, by omega⟩

/-- Copy the numerators and the statistics to the `j`-th other device. -/
def sendStep (c : Dev nD) (j : Fin 3) (k : P F) : P F :=
  Prog.op (.enqueueDma (halfN nM c) (.remote (Dev.tc (devN j c)) (halfN (dstN j) c) (.dma (sendSem (evn j)))) (.dma (recvSem (evn j))) (View.wordExact_bits rfl) (View.wordExact_bits rfl) ⟨⟨rfl, Or.inl rfl⟩, trivial⟩) fun _ =>
  Prog.op (.enqueueDma (halfS sM c) (.remote (Dev.tc (devS j c)) (halfS (dstS j) c) (.dma (sendSem (odd j)))) (.dma (recvSem (odd j))) (View.wordExact_bits rfl) (View.wordExact_bits rfl) ⟨⟨rfl, Or.inl rfl⟩, trivial⟩) fun _ => k

/-- Wait for the copies to the `j`-th other device and for those from it. -/
def waitStep (c : Dev nD) (j : Fin 3) (k : P F) : P F :=
  Prog.op (.waitDma2 (sendSem (evn j)) (halfN (dstN j) c) (halfN nM c) (View.wordExact_bits rfl) (View.wordExact_bits rfl)) fun _ =>
  Prog.op (.waitDma2 (recvSem (evn j)) (halfN nM c) (halfN (dstN j) c) (View.wordExact_bits rfl) (View.wordExact_bits rfl)) fun _ =>
  Prog.op (.waitDma2 (sendSem (odd j)) (halfS (dstS j) c) (halfS sM c) (View.wordExact_bits rfl) (View.wordExact_bits rfl)) fun _ =>
  Prog.op (.waitDma2 (recvSem (odd j)) (halfS sM c) (halfS (dstS j) c) (View.wordExact_bits rfl) (View.wordExact_bits rfl)) fun _ => k

/-- Read both halves of the softmax, merge them and store the result. -/
def mergeStep (k : P F) : P F :=
  Prog.op (.load sM plane0.toLoadRect (View.loadsAt_vmem h_S1x16x16)) fun m0 =>
  Prog.op (.load sM plane1.toLoadRect (View.loadsAt_vmem h_S1x16x16)) fun l0 =>
  Prog.op (.load rsM plane0.toLoadRect (View.loadsAt_vmem h_S1x16x16)) fun m1 =>
  Prog.op (.load rsM plane1.toLoadRect (View.loadsAt_vmem h_S1x16x16)) fun l1 =>
  Prog.op (.load nM allN.toLoadRect (View.loadsAt_vmem h_S16x16x64)) fun n0 =>
  Prog.op (.load rnM allN.toLoadRect (View.loadsAt_vmem h_S16x16x64)) fun n1 =>
  Prog.op (.load oM allO.toLoadRect (View.loadsAt_vmem h_S16x1x16x64)) fun _ =>
  Prog.op (.store oM allO (k0_pay1 (k0_pay63 m0 l0 m1 l1 n0 n1)) Finset.univ (View.stores_vmem_bits_univ h_S16x1x16x64 rfl) (.inl rfl)) fun _ => k

/-- A step of the loop over rows. -/
inductive RowOp where
  | start (j : Fin 8)
  | row (i : Fin 8)

/-- A list of loop steps, then `k`. -/
def runOps (c : Dev nD) : List RowOp → P F → P F
  | [], k => k
  | .start j :: l, k => startStep c j (runOps c l k)
  | .row i :: l, k => rowStep c i (runOps c l k)

/-- The loop over rows as the kernel unrolls it: four rows ahead in the ring. -/
def rowOps : List RowOp :=
  [.start 0, .start 1, .start 2, .start 3, .row 0, .start 4, .row 1, .start 5, .row 2, .start 6, .row 3, .start 7,
   .row 4, .row 5, .row 6, .row 7]

/-- The body after its barrier. -/
def afterBarrier (c : Dev nD) : P F :=
  runOps c rowOps <| sendStep c 0 <| sendStep c 1 <| sendStep c 2 <| waitStep c 0 <| waitStep c 1 <| waitStep c 2 <| mergeStep <| .ret ⟨⟩

/-- The body as its steps. -/
def stepsBody : P F :=
  Prog.op .deviceId fun c =>
  Prog.bind (semSignalWord (⟨k0_dev1 c, k0_dev1_lt c⟩ : Dev nD) barSem 1#32) fun _ =>
  Prog.bind (semSignalWord (⟨k0_dev2 c, k0_dev2_lt c⟩ : Dev nD) barSem 1#32) fun _ =>
  Prog.bind (semSignalWord (⟨k0_dev3 c, k0_dev3_lt c⟩ : Dev nD) barSem 1#32) fun _ =>
  Prog.bind (semWaitWord barSem 3#32) fun _ => afterBarrier c

set_option maxRecDepth 65536 in
/-- The kernel's body is its steps. -/
theorem body_steps :
    cc0_body (F := F) qM (Memref.isWhole_whole _) kM (Memref.isWhole_whole _) vM (Memref.isWhole_whole _) oM (Memref.isWhole_whole _) kB (Memref.isWhole_whole _) vB (Memref.isWhole_whole _) cc0_scratch2 cc0_scratch3 nM (Memref.isWhole_whole _) sM (Memref.isWhole_whole _) rnM (Memref.isWhole_whole _) rsM (Memref.isWhole_whole _) cc0_scratch8 cc0_scratch9
      = stepsBody := by
  rfl

end Cert.KernelIdeal

end
-- ==== Proof.Contents.lean ====
/-
  What the kernel's buffers hold: the rows of K and V a device reads, the softmax numerators and statistics of each
  row of the batch, the halves of the accumulators by the device computing them, and the merged result.
-/
module

public import proofs.«01_k».proof.Proof.Steps
public import proofs.«01_k».proof.Proof.Gen.KernelIdeal.Frame
public import Idealize.ShloMosaic.Lib.Pointwise.Index
public import Idealize.ShloMosaic.Lib.Pipeline.Value

@[expose] public section

noncomputable section

namespace Cert.KernelIdeal

open Cert.KernelIdeal.Gen
open Idealize.ShloMosaic Idealize.ShloMosaic.TcCoe
open Idealize.SL.Sem

variable {F : FTy → Type} [FloatOps F]

/-! ## The devices -/

/-- The half of the batch device `c` computes. -/
def xOf (c : Dev nD) : Fin 2 := ⟨c.val / 2, by have h : c.val < 4 := c.isLt; omega⟩
/-- The block of the sequence device `c` holds. -/
def yOf (c : Dev nD) : Fin 2 := ⟨c.val % 2, Nat.mod_lt _ (by decide)⟩
/-- The device at a position of the mesh. -/
def dxy (x y : Fin 2) : Dev nD := ⟨2 * x.val + y.val, show _ < 4 by omega⟩

/-- The devices a device exchanges with: the one sharing its block of the sequence, the one sharing its half of the
    batch, the one sharing neither. -/
def peer (j : Fin 3) (c : Dev nD) : Dev nD :=
  match j with
  | 0 => dxy (1 - xOf c) (yOf c)
  | 1 => dxy (xOf c) (1 - yOf c)
  | 2 => dxy (1 - xOf c) (1 - yOf c)

theorem peer_peer : ∀ (j : Fin 3) (c : Dev nD), peer j (peer j c) = c := by decide
theorem dxy_xy : ∀ c : Dev nD, dxy (xOf c) (yOf c) = c := by decide
theorem yOf_peer0 : ∀ c : Dev nD, yOf (peer 0 c) = yOf c := by decide
theorem yOf_peer1 : ∀ c : Dev nD, yOf (peer 1 c) = 1 - yOf c := by decide
theorem yOf_peer2 : ∀ c : Dev nD, yOf (peer 2 c) = 1 - yOf c := by decide
theorem xOf_peer0 : ∀ c : Dev nD, xOf (peer 0 c) ≠ xOf c := by decide
theorem xOf_peer12 : ∀ c : Dev nD, xOf (peer 1 c) ≠ xOf (peer 2 c) := by decide
theorem dev1_eq : ∀ c : Dev nD, (⟨k0_dev1 c, k0_dev1_lt c⟩ : Dev nD) = peer 0 c := fun c => by
  revert c; simp only [k0_dev1_eq]; decide
theorem dev2_eq : ∀ c : Dev nD, (⟨k0_dev2 c, k0_dev2_lt c⟩ : Dev nD) = peer 1 c := fun c => by
  revert c; simp only [k0_dev2_eq]; decide
theorem dev3_eq : ∀ c : Dev nD, (⟨k0_dev3 c, k0_dev3_lt c⟩ : Dev nD) = peer 2 c := fun c => by
  revert c; simp only [k0_dev3_eq]; decide
theorem devN_eq (j : Fin 3) (c : Dev nD) : devN j c = peer j c := by
  revert j c; unfold devN; simp only [k0_dev4_eq, k0_dev6_eq, k0_dev8_eq]; decide
theorem devS_eq (j : Fin 3) (c : Dev nD) : devS j c = peer j c := by
  revert j c; unfold devS; simp only [k0_dev5_eq, k0_dev7_eq, k0_dev9_eq]; decide

/-! ## The elements of the views -/

/-- A device's part of the numerators: the rows of its half of the batch. -/
theorem mem_halfN (c : Dev nD) (i : S16x16x64.Idx) :
    i ∈ (halfRectN c).set ↔ 8 * (xOf c).val ≤ (i 0).val ∧ (i 0).val < 8 * (xOf c).val + 8 := by
  rw [Rect.mem_set_unit]
  simp only [k0_off6_eq]
  constructor
  · intro h; exact h 0
  · intro h a
    have h1 := (i 1).isLt; have h2 := (i 2).isLt
    match a with
    | ⟨0, _⟩ => exact h
    | ⟨1, _⟩ => exact ⟨Nat.zero_le _, by simpa using h1⟩
    | ⟨2, _⟩ => exact ⟨Nat.zero_le _, by simpa using h2⟩

/-- A device's part of the statistics: the columns of its half of the batch. -/
theorem mem_halfS (c : Dev nD) (i : S2x16x16.Idx) :
    i ∈ (halfRectS c).set ↔ 8 * (xOf c).val ≤ (i 1).val ∧ (i 1).val < 8 * (xOf c).val + 8 := by
  rw [Rect.mem_set_unit]
  simp only [k0_off7_eq]
  constructor
  · intro h; exact h 1
  · intro h a
    have h0 := (i 0).isLt; have h2 := (i 2).isLt
    match a with
    | ⟨0, _⟩ => exact ⟨Nat.zero_le _, by simpa using h0⟩
    | ⟨1, _⟩ => exact h
    | ⟨2, _⟩ => exact ⟨Nat.zero_le _, by simpa using h2⟩

theorem half_cases {a b : Fin 2} (h : a ≠ b) (n : ℕ) (hn : n < 16) :
    ¬(8 * a.val ≤ n ∧ n < 8 * a.val + 8) ↔ (8 * b.val ≤ n ∧ n < 8 * b.val + 8) := by
  have := Fin.val_ne_of_ne h
  omega

/-- The parts of devices in different halves of the batch make up the numerators. -/
theorem halfN_compl {c d : Dev nD} (h : xOf c ≠ xOf d) : Finset.univ \ (halfRectN c).set = (halfRectN d).set := by
  ext i
  rw [Finset.mem_sdiff, mem_halfN, mem_halfN]
  exact ⟨fun hi => (half_cases h _ (i 0).isLt).1 hi.2, fun hi => ⟨Finset.mem_univ _, (half_cases h _ (i 0).isLt).2 hi⟩⟩
/-- The parts of devices in different halves of the batch make up the statistics. -/
theorem halfS_compl {c d : Dev nD} (h : xOf c ≠ xOf d) : Finset.univ \ (halfRectS c).set = (halfRectS d).set := by
  ext i
  rw [Finset.mem_sdiff, mem_halfS, mem_halfS]
  exact ⟨fun hi => (half_cases h _ (i 1).isLt).1 hi.2, fun hi => ⟨Finset.mem_univ _, (half_cases h _ (i 1).isLt).2 hi⟩⟩

/-- A rectangle of leading extent one at offset `n`. -/
theorem mem_slot (s : Fin 4) (i : S4x16x64x1024.Idx) : i ∈ (slotRect s).set ↔ (i 0).val = s.val := by
  rw [Rect.mem_set_unit]
  constructor
  · intro h; have := h 0; simp at this; omega
  · intro h a
    have h1 := (i 1).isLt; have h2 := (i 2).isLt; have h3 := (i 3).isLt
    match a with
    | ⟨0, _⟩ => exact ⟨h.ge, by show (i 0).val < s.val + 1; omega⟩
    | ⟨1, _⟩ => exact ⟨Nat.zero_le _, by simpa using h1⟩
    | ⟨2, _⟩ => exact ⟨Nat.zero_le _, by simpa using h2⟩
    | ⟨3, _⟩ => exact ⟨Nat.zero_le _, by simpa using h3⟩

theorem mem_row (c : Dev nD) (j : Fin 8) (i : S16x16x64x1024.Idx) : i ∈ (rowRect c j).set ↔ (i 0).val = 8 * (xOf c).val + j.val := by
  rw [Rect.mem_set_unit]
  simp only [k0_off1_eq]
  constructor
  · intro h; have := h 0; simp at this; show _ = 8 * (c.val / 2) + _; omega
  · intro h a
    have h1 := (i 1).isLt; have h2 := (i 2).isLt; have h3 := (i 3).isLt
    match a with
    | ⟨0, _⟩ => exact ⟨h.ge, by show (i 0).val < 8 * (c.val / 2) + j.val + 1; change _ = 8 * (c.val / 2) + _ at h; omega⟩
    | ⟨1, _⟩ => exact ⟨Nat.zero_le _, by simpa using h1⟩
    | ⟨2, _⟩ => exact ⟨Nat.zero_le _, by simpa using h2⟩
    | ⟨3, _⟩ => exact ⟨Nat.zero_le _, by simpa using h3⟩

/-- The elements a row's numerators are stored at. -/
theorem mem_nRect (c : Dev nD) (r : Fin 8) (i : S16x16x64.Idx) : i ∈ (nRect c r).set ↔ (i 0).val = 8 * (xOf c).val + r.val := by
  rw [Rect.mem_set_unit]
  simp only [k0_off3_eq]
  constructor
  · intro h; have := h 0; simp at this; show _ = 8 * (c.val / 2) + _; omega
  · intro h a
    have h1 := (i 1).isLt; have h2 := (i 2).isLt
    match a with
    | ⟨0, _⟩ => exact ⟨h.ge, by show (i 0).val < 8 * (c.val / 2) + r.val + 1; change _ = 8 * (c.val / 2) + _ at h; omega⟩
    | ⟨1, _⟩ => exact ⟨Nat.zero_le _, by simpa using h1⟩
    | ⟨2, _⟩ => exact ⟨Nat.zero_le _, by simpa using h2⟩

/-- The elements a row's largest scores are stored at. -/
theorem mem_mRect (c : Dev nD) (r : Fin 8) (i : S2x16x16.Idx) :
    i ∈ (mRect c r).set ↔ (i 0).val = 0 ∧ (i 1).val = 8 * (xOf c).val + r.val := by
  rw [Rect.mem_set_unit]
  simp only [k0_off4_eq]
  constructor
  · intro h; have h0 := h 0; have h1 := h 1; simp at h0 h1
    exact ⟨by omega, by show _ = 8 * (c.val / 2) + _; omega⟩
  · intro h a
    have h2 := (i 2).isLt
    match a with
    | ⟨0, _⟩ => exact ⟨Nat.zero_le _, by show (i 0).val < 0 + 1; omega⟩
    | ⟨1, _⟩ => exact ⟨h.2.ge, by show (i 1).val < 8 * (c.val / 2) + r.val + 1; have h3 := h.2; change _ = 8 * (c.val / 2) + _ at h3; omega⟩
    | ⟨2, _⟩ => exact ⟨Nat.zero_le _, by simpa using h2⟩
/-- The elements a row's sums are stored at. -/
theorem mem_lRect (c : Dev nD) (r : Fin 8) (i : S2x16x16.Idx) :
    i ∈ (lRect c r).set ↔ (i 0).val = 1 ∧ (i 1).val = 8 * (xOf c).val + r.val := by
  rw [Rect.mem_set_unit]
  simp only [k0_off5_eq]
  constructor
  · intro h; have h0 := h 0; have h1 := h 1; simp at h0 h1
    exact ⟨by omega, by show _ = 8 * (c.val / 2) + _; omega⟩
  · intro h a
    have h2 := (i 2).isLt
    match a with
    | ⟨0, _⟩ => exact ⟨h.1.ge, by show (i 0).val < 1 + 1; omega⟩
    | ⟨1, _⟩ => exact ⟨h.2.ge, by show (i 1).val < 8 * (c.val / 2) + r.val + 1; have h3 := h.2; change _ = 8 * (c.val / 2) + _ at h3; omega⟩
    | ⟨2, _⟩ => exact ⟨Nat.zero_le _, by simpa using h2⟩

/-! ## The contents -/

variable (m : (ℓ : Loc nD τ sig) → Buf (Elt F) ℓ)

/-- The queries as staged on device `c`. -/
def qstg (c : Dev nD) : (cc0_stg0_0 : Ref sig .tc).ty.Contents (Elt F) := iblk m c 0 t0_0
/-- Row `j` of the queries, as loaded. -/
def qrow (c : Dev nD) (j : Fin 8) : Vec F S1x1x16x64 .f32 := qM.view.readAt (Elt F) (qRect c j).toLoadRect (qstg m c)
/-- Row `j` of device `c`'s keys. -/
def krow (c : Dev nD) (j : Fin 8) : Vec F S1x16x64x1024 .f32 := kM.view.readAt (Elt F) (rowRect c j).toLoadRect (V m c main_v1)
/-- Row `j` of device `c`'s values. -/
def vrow (c : Dev nD) (j : Fin 8) : Vec F S1x16x64x1024 .f32 := vM.view.readAt (Elt F) (rowRect c j).toLoadRect (V m c main_v2)

/-- The numerators device `c` computes for its row `j`, -/
def numAt (c : Dev nD) (j : Fin 8) : FVec F S1x16x64 .f32 := rowN (qrow m c j) (krow m c j) (vrow m c j)
/-- the largest scores, -/
def maxAt (c : Dev nD) (j : Fin 8) : FVec F S1x1x16 .f32 := rowM (qrow m c j) (krow m c j)
/-- and the sums. -/
def sumAt (c : Dev nD) (j : Fin 8) : FVec F S1x1x16 .f32 := rowL (qrow m c j) (krow m c j)

/-- The half of the batch a row is in, and its place there. -/
def hi16 (n : Fin 16) : Fin 2 := ⟨n.val / 8, by omega⟩
def lo16 (n : Fin 16) : Fin 8 := ⟨n.val % 8, Nat.mod_lt _ (by decide)⟩

/-- The numerators over block `y` of the sequence, every row from the device computing it. -/
def accN (y : Fin 2) : (cc0_scratch4 : Ref sig .tc).ty.Contents (Elt F) := fun i : S16x16x64.Idx =>
  numAt m (dxy (hi16 (i 0)) y) (lo16 (i 0)) (ix3 (0 : Fin 1) (i 1 : Fin 16) (i 2 : Fin 64))
/-- The statistics over block `y` of the sequence. -/
def accS (y : Fin 2) : (cc0_scratch5 : Ref sig .tc).ty.Contents (Elt F) := fun i : S2x16x16.Idx =>
  if (i 0).val = 0 then maxAt m (dxy (hi16 (i 1)) y) (lo16 (i 1)) (ix3 (0 : Fin 1) (0 : Fin 1) (i 2 : Fin 16))
  else sumAt m (dxy (hi16 (i 1)) y) (lo16 (i 1)) (ix3 (0 : Fin 1) (0 : Fin 1) (i 2 : Fin 16))

theorem hi_lo {c : Dev nD} {j : Fin 8} {n : Fin 16} (h : n.val = 8 * (xOf c).val + j.val) : dxy (hi16 n) (yOf c) = c ∧ lo16 n = j := by
  have h1 : hi16 n = xOf c := Fin.ext (by show n.val / 8 = _; omega)
  exact ⟨by rw [h1, dxy_xy], Fin.ext (by show n.val % 8 = _; omega)⟩

/-- A write through a view, at an element the view names. -/
theorem write_at {sp : Space} {s : Shape} {e : EltTy} {v : View sig .tc sp s e} {x} {i : v.ty.Idx} (h : v.emb x = i)
    (f : v.ty.Contents (Elt F)) (w : s.Idx → Elt F e) :
    v.write (Elt F) f w Finset.univ i = cast (congrArg (Elt F) v.elt_eq.symm) (w x) := by
  subst h
  exact View.write_emb_of_mem f w (Finset.mem_univ _)

/-- Storing a row's numerators: the row is as in `accN`, -/
theorem storeN_at (c : Dev nD) (j : Fin 8) (f : (cc0_scratch4 : Ref sig .tc).ty.Contents (Elt F)) (i : S16x16x64.Idx)
    (h : (i 0).val = 8 * (xOf c).val + j.val) :
    (nM.access (nRect c j)).write (Elt F) f (numAt m c j) Finset.univ i = accN m (yOf c) i := by
  have hi : (nM.access (nRect c j)).emb (ix3 (0 : Fin 1) (i 1 : Fin 16) (i 2 : Fin 64)) = i := by
    refine funext fun a => Fin.ext ?_
    have e : ∀ a : Fin 3, (((nM.access (nRect c j)).emb (ix3 (0 : Fin 1) (i 1 : Fin 16) (i 2 : Fin 64)) : S16x16x64.Idx) a).val
        = (k0_off3 c (BitVec.ofNat 32 j.val)) a + 1 * (ix3 (0 : Fin 1) (i 1 : Fin 16) (i 2 : Fin 64) a).val := fun a => rfl
    refine (e a).trans ?_
    rw [k0_off3_eq]
    match a with
    | ⟨0, _⟩ => show 8 * (c.val / 2) + j.val + 1 * 0 = _; exact h.symm
    | ⟨1, _⟩ => exact (Nat.zero_add _).trans (Nat.one_mul _)
    | ⟨2, _⟩ => exact (Nat.zero_add _).trans (Nat.one_mul _)
  refine (write_at hi f (numAt m c j)).trans ?_
  unfold accN
  rw [(hi_lo (n := i 0) h).1, (hi_lo (n := i 0) h).2]
  rfl
/-- and the other rows are as they were. -/
theorem storeN_off (c : Dev nD) (j : Fin 8) (f : (cc0_scratch4 : Ref sig .tc).ty.Contents (Elt F)) (w) (i : S16x16x64.Idx)
    (h : (i 0).val ≠ 8 * (xOf c).val + j.val) :
    (nM.access (nRect c j)).write (Elt F) f w Finset.univ i = f i :=
  View.write_of_not_mem _ _ _ (by
    rw [View.setOn_univ]
    intro hi
    exact h ((mem_nRect c j i).1 ((Finset.ext_iff.1 (View.set_slice_whole cc0_scratch4 (nRect c j)) i).1 hi)))

theorem storeM_at (c : Dev nD) (j : Fin 8) (f : (cc0_scratch5 : Ref sig .tc).ty.Contents (Elt F)) (i : S2x16x16.Idx)
    (h0 : (i 0).val = 0) (h : (i 1).val = 8 * (xOf c).val + j.val) :
    (sM.access (mRect c j)).write (Elt F) f (maxAt m c j) Finset.univ i = accS m (yOf c) i := by
  have hi : (sM.access (mRect c j)).emb (ix3 (0 : Fin 1) (0 : Fin 1) (i 2 : Fin 16)) = i := by
    refine funext fun a => Fin.ext ?_
    have e : ∀ a : Fin 3, (((sM.access (mRect c j)).emb (ix3 (0 : Fin 1) (0 : Fin 1) (i 2 : Fin 16)) : S2x16x16.Idx) a).val
        = (k0_off4 c (BitVec.ofNat 32 j.val)) a + 1 * (ix3 (0 : Fin 1) (0 : Fin 1) (i 2 : Fin 16) a).val := fun a => rfl
    refine (e a).trans ?_
    rw [k0_off4_eq]
    match a with
    | ⟨0, _⟩ => show 0 + 1 * 0 = _; exact h0.symm
    | ⟨1, _⟩ => show 8 * (c.val / 2) + j.val + 1 * 0 = _; exact h.symm
    | ⟨2, _⟩ => exact (Nat.zero_add _).trans (Nat.one_mul _)
  refine (write_at hi f (maxAt m c j)).trans ?_
  unfold accS
  rw [if_pos h0, (hi_lo (n := i 1) h).1, (hi_lo (n := i 1) h).2]
  exact cast_eq _ _
theorem storeM_off (c : Dev nD) (j : Fin 8) (f : (cc0_scratch5 : Ref sig .tc).ty.Contents (Elt F)) (w) (i : S2x16x16.Idx)
    (h : ¬((i 0).val = 0 ∧ (i 1).val = 8 * (xOf c).val + j.val)) :
    (sM.access (mRect c j)).write (Elt F) f w Finset.univ i = f i :=
  View.write_of_not_mem _ _ _ (by
    rw [View.setOn_univ]
    intro hi
    exact h ((mem_mRect c j i).1 ((Finset.ext_iff.1 (View.set_slice_whole cc0_scratch5 (mRect c j)) i).1 hi)))

theorem storeL_at (c : Dev nD) (j : Fin 8) (f : (cc0_scratch5 : Ref sig .tc).ty.Contents (Elt F)) (i : S2x16x16.Idx)
    (h0 : (i 0).val = 1) (h : (i 1).val = 8 * (xOf c).val + j.val) :
    (sM.access (lRect c j)).write (Elt F) f (sumAt m c j) Finset.univ i = accS m (yOf c) i := by
  have hi : (sM.access (lRect c j)).emb (ix3 (0 : Fin 1) (0 : Fin 1) (i 2 : Fin 16)) = i := by
    refine funext fun a => Fin.ext ?_
    have e : ∀ a : Fin 3, (((sM.access (lRect c j)).emb (ix3 (0 : Fin 1) (0 : Fin 1) (i 2 : Fin 16)) : S2x16x16.Idx) a).val
        = (k0_off5 c (BitVec.ofNat 32 j.val)) a + 1 * (ix3 (0 : Fin 1) (0 : Fin 1) (i 2 : Fin 16) a).val := fun a => rfl
    refine (e a).trans ?_
    rw [k0_off5_eq]
    match a with
    | ⟨0, _⟩ => show 1 + 1 * 0 = _; exact h0.symm
    | ⟨1, _⟩ => show 8 * (c.val / 2) + j.val + 1 * 0 = _; exact h.symm
    | ⟨2, _⟩ => exact (Nat.zero_add _).trans (Nat.one_mul _)
  refine (write_at hi f (sumAt m c j)).trans ?_
  unfold accS
  rw [if_neg (by omega), (hi_lo (n := i 1) h).1, (hi_lo (n := i 1) h).2]
  exact cast_eq _ _
theorem storeL_off (c : Dev nD) (j : Fin 8) (f : (cc0_scratch5 : Ref sig .tc).ty.Contents (Elt F)) (w) (i : S2x16x16.Idx)
    (h : ¬((i 0).val = 1 ∧ (i 1).val = 8 * (xOf c).val + j.val)) :
    (sM.access (lRect c j)).write (Elt F) f w Finset.univ i = f i :=
  View.write_of_not_mem _ _ _ (by
    rw [View.setOn_univ]
    intro hi
    exact h ((mem_lRect c j i).1 ((Finset.ext_iff.1 (View.set_slice_whole cc0_scratch5 (lRect c j)) i).1 hi)))

/-- A slot that a row was copied to reads as the row. -/
theorem slot_read_k (c : Dev nD) (j : Fin 8) (s : Fin 4) (f : (cc0_scratch0 : Ref sig .tc).ty.Contents (Elt F))
    (h : (kSlot s).view.read (Elt F) f = (kRow c j).view.read (Elt F) (V m c main_v1)) :
    kB.view.readAt (Elt F) (slotRect s).toLoadRect f = krow m c j := by
  funext x
  have := congrFun h ((Shape.reshapeEquiv (Shape.Squeezes.numel_eq squeezes_S1x16x64x1024_S16x64x1024)).symm x)
  simp only [View.read, Memref.view_squeeze, View.emb_reshape, Function.Embedding.trans_apply, Equiv.coe_toEmbedding, Equiv.apply_symm_apply] at this
  exact this
theorem slot_read_v (c : Dev nD) (j : Fin 8) (s : Fin 4) (f : (cc0_scratch1 : Ref sig .tc).ty.Contents (Elt F))
    (h : (vSlot s).view.read (Elt F) f = (vRow c j).view.read (Elt F) (V m c main_v2)) :
    vB.view.readAt (Elt F) (slotRect s).toLoadRect f = vrow m c j := by
  funext x
  have := congrFun h ((Shape.reshapeEquiv (Shape.Squeezes.numel_eq squeezes_S1x16x64x1024_S16x64x1024)).symm x)
  simp only [View.read, Memref.view_squeeze, View.emb_reshape, Function.Embedding.trans_apply, Equiv.coe_toEmbedding, Equiv.apply_symm_apply] at this
  exact this

/-- The merged result, from both blocks' accumulators: device `c`'s own block first. -/
def outAt (c : Dev nD) : (cc0_stg1_0 : Ref sig .tc).ty.Contents (Elt F) :=
  k0_pay1 (k0_pay63 (sM.view.readAt (Elt F) plane0.toLoadRect (accS m (yOf c))) (sM.view.readAt (Elt F) plane1.toLoadRect (accS m (yOf c)))
    (rsM.view.readAt (Elt F) plane0.toLoadRect (accS m (1 - yOf c))) (rsM.view.readAt (Elt F) plane1.toLoadRect (accS m (1 - yOf c)))
    (nM.view.readAt (Elt F) allN.toLoadRect (accN m (yOf c))) (rnM.view.readAt (Elt F) allN.toLoadRect (accN m (1 - yOf c))))

end Cert.KernelIdeal

end
-- ==== Proof.Protocol.lean ====
/-
  The exchange between the devices: the semaphores waited on, what each signal and copy hands over, what every
  device owes the others, and the order of waiting.
-/
module

public import proofs.«01_k».proof.Proof.Contents
public import proofs.«01_k».proof.Proof.Gen.KernelIdeal.Launch
public import Idealize.ShloMosaic.Lib.Pipeline.Regions
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's part of it. -/
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EB_landsIn : (EB : Emb UB 𝕄).LandsIn (upEmb : UEmb _ 𝕄) := by unfold EB; infer_instance

variable (m : (ℓ : Loc nD τ sig) → Buf (Elt F) ℓ) (ρ : Dev nD → PrngReg)

/-! ## The cells -/

/-- A transfer's semaphore on a device: of sending (`false`) or receiving (`true`), with which other device, of the
    numerators (`false`) or of the statistics (`true`). -/
abbrev Yx : Type := Bool × Fin 3 × Bool
/-- A semaphore of the exchange on a device: the barrier, or a transfer's. -/
abbrev Cx : Type := Option Yx

/-- A copy's place among the six. -/
abbrev num (j : Fin 3) (b : Bool) : Fin 6 := bif b then odd j else evn j

abbrev csem : Cx → SemLoc sig
  | none => .reg barSem
  | some (false, j, b) => .dma (sendSem (num j b))
  | some (true, j, b) => .dma (recvSem (num j b))
abbrev kcell (p : Dev nD × Cx) : GSem nD τ sig := ((p.1 : Thread nD τ), csem p.2)

theorem csem_inj : Function.Injective csem := by
  have h : ∀ x y : Cx, csem x = csem y → x = y := by decide
  exact fun x y => h x y
theorem kcell_inj : Function.Injective kcell := by
  rintro ⟨c, x⟩ ⟨d, y⟩ h
  have h1 : c = d := congrArg (fun g : GSem nD τ sig => g.1.1) h
  have h2 : x = y := csem_inj (congrArg Prod.snd h)
  rw [h1, h2]

/-- Which semaphore of the exchange a semaphore is. -/
def ix? (s : SemLoc sig) : Option Cx := Function.partialInv csem s
theorem ix?_csem (x : Cx) : ix? (csem x) = some x := Function.partialInv_left csem_inj x
theorem ix?_none {s : SemLoc sig} (h : ∀ x, csem x ≠ s) : ix? s = none := by
  unfold ix? Function.partialInv
  exact dif_neg fun ⟨x, hx⟩ => h x hx

/-! ## What is handed over -/

/-- The bytes of the numerators' half, and of the statistics'. -/
abbrev amtN : ℕ := (halfN nM 0).view.dmaCredit
abbrev amtS : ℕ := (halfS sM 0).view.dmaCredit
abbrev amtOf (b : Bool) : ℕ := bif b then amtS else amtN
theorem amtOf_pos (b : Bool) : 0 < amtOf b := by
  cases b
  · exact View.dmaCredit_pos _ (by decide)
  · exact View.dmaCredit_pos _ (by decide)
/-- What a semaphore's one payment counts. -/
abbrev amtX : Cx → ℕ
  | none => 1
  | some y => amtOf y.2.2
theorem amtX_pos (x : Cx) : 0 < amtX x := by
  match x with
  | none => exact Nat.one_pos
  | some y => exact amtOf_pos _

/-- Device `p`'s half of a buffer on device `c`. -/
def nPts (M : Memref sig .tc .vmem S16x16x64 .f32) (p c : Dev nD) (q : PosShare TreeShare)
    (f : Buf (Elt F) ((halfN M p).view.loc (c : Thread nD τ))) : sProp 𝕄 :=
  (halfN M p).view.loc (c : Thread nD τ) ↦[(halfN M p).view.set]{q} f
def sPts (M : Memref sig .tc .vmem S2x16x16 .f32) (p c : Dev nD) (q : PosShare TreeShare)
    (f : Buf (Elt F) ((halfS M p).view.loc (c : Thread nD τ))) : sProp 𝕄 :=
  (halfS M p).view.loc (c : Thread nD τ) ↦[(halfS M p).view.set]{q} f

/-- The share of the source that the copy to the `j`-th device reads. -/
def qOf (j : Fin 3) : PosShare TreeShare :=
  match j with | 0 => fullShare.left | 1 => fullShare.right.left | 2 => fullShare.right.right

/-- Device `c`'s own half, computed. -/
abbrev srcN (c : Dev nD) (q : PosShare TreeShare) : sProp 𝕄 := nPts nM c c q (accN m (yOf c))
abbrev srcS (c : Dev nD) (q : PosShare TreeShare) : sProp 𝕄 := sPts sM c c q (accS m (yOf c))

/-- Device `p`'s half as it has landed on device `c`, `c` being its `j`-th. -/
def landN (j : Fin 3) (p c : Dev nD) : sProp 𝕄 :=
  iprop(∃ f, ⌜(halfN (dstN j) p).view.read (Elt F) f = (halfN nM p).view.read (Elt F) (accN m (yOf p))⌝ ∗ nPts (dstN j) p c fullShare f)
def landS (j : Fin 3) (p c : Dev nD) : sProp 𝕄 :=
  iprop(∃ f, ⌜(halfS (dstS j) p).view.read (Elt F) f = (halfS sM p).view.read (Elt F) (accS m (yOf p))⌝ ∗ sPts (dstS j) p c fullShare f)

/-- What device `p`'s barrier signal hands device `c`: where the copies of `c`'s half may land, both ready. -/
def barPay (j : Fin 3) (p c : Dev nD) : sProp 𝕄 :=
  iprop((∃ f, nPts (dstN j) c p fullShare f) ∗ (∃ f, sPts (dstS j) c p fullShare f)
    ∗ reached EB (kcell (p, some (true, j, false))) 0 ∗ reached EB (kcell (p, some (true, j, true))) 0)

/-- What the semaphores' payments hand device `c`. -/
def pay (c : Dev nD) (x : Cx) (d : Fin 3) : sProp 𝕄 :=
  match x with
  | none => barPay d (peer d c) c
  | some (false, j, false) => srcN m c (qOf j)
  | some (false, j, true) => srcS m c (qOf j)
  | some (true, j, false) => landN m j (peer j c) c
  | some (true, j, true) => landS m j (peer j c) c

instance pay_storable (c : Dev nD) (x : Cx) (d : Fin 3) : BI.Storable (upEmb : UEmb _ 𝕄) (pay (F := F) m c x d) := by
  unfold pay barPay srcN srcS landN landS nPts sPts
  split <;> infer_instance

/-- The payments: three units to a barrier, one from every other device; a copy's bytes to a transfer's semaphore. -/
def exch : Rounds.Schedule (GSem nD τ sig) (Fin 3) 𝕄 where
  duties g r := if r = 0 ∧ g.1.2 = .tc then (match ix? g.2 with | none => ∅ | some none => Finset.univ | some (some _) => {0}) else ∅
  unitless _ := False
  amount g _ _ := match ix? g.2 with | none => 1 | some x => amtX x
  payload g _ d := match ix? g.2 with | none => iprop(emp) | some x => pay m g.1.1 x d
  amount_pos g _ _ _ := by
    show 0 < (match ix? g.2 with | none => 1 | some x => amtX x)
    cases ix? g.2 with
    | none => exact Nat.one_pos
    | some x => exact amtX_pos x

instance exch_payload_storable (g : GSem nD τ sig) (r : ℕ) (d : Fin 3) :
    BI.Storable (upEmb : UEmb _ 𝕄) ((exch (F := F) m).payload g r d) := by
  show BI.Storable upEmb (match ix? g.2 with | none => iprop(emp) | some x => pay m g.1.1 x d)
  split <;> infer_instance

theorem duties_bar (c : Dev nD) : (exch (F := F) m).duties (kcell (c, none)) 0 = Finset.univ := by
  dsimp only [exch]; rw [if_pos ⟨rfl, rfl⟩, ix?_csem]
theorem duties_xfer (c : Dev nD) (y : Yx) : (exch (F := F) m).duties (kcell (c, some y)) 0 = {0} := by
  dsimp only [exch]; rw [if_pos ⟨rfl, rfl⟩, ix?_csem]
theorem duties_later (g : GSem nD τ sig) : ∀ r, 1 ≤ r → (exch (F := F) m).duties g r = ∅ :=
  fun r hr => by dsimp only [exch]; rw [if_neg fun h => by omega]
theorem amount_eq (c : Dev nD) (x : Cx) (d : Fin 3) : (exch (F := F) m).amount (kcell (c, x)) 0 d = amtX x := by
  dsimp only [exch]; rw [ix?_csem]
theorem payload_eq (c : Dev nD) (x : Cx) (d : Fin 3) : (exch (F := F) m).payload (kcell (c, x)) 0 d = pay m c x d := by
  dsimp only [exch]; rw [ix?_csem]
theorem expect_bar (c : Dev nD) : (exch (F := F) m).expect (kcell (c, none)) 0 = 3 := by
  unfold Schedule.expect Schedule.amountOf
  rw [duties_bar, Finset.sum_congr rfl fun d _ => amount_eq m c none d, Finset.sum_const]; rfl
theorem expect_xfer (c : Dev nD) (y : Yx) : (exch (F := F) m).expect (kcell (c, some y)) 0 = amtOf y.2.2 := by
  unfold Schedule.expect Schedule.amountOf
  rw [duties_xfer, Finset.sum_singleton, amount_eq]

theorem bigSep_fin3 (Φ : Fin 3 → sProp 𝕄) : bigSep Finset.univ Φ = iprop(Φ 0 ∗ Φ 1 ∗ Φ 2) := bigSep_univ_eq_bigSepL [0, 1, 2] (by decide) (by decide) Φ

/-- What a device's barrier wait brings: from every other device, where the copies to it may land. -/
theorem rest_bar (c : Dev nD) :
    bigSep ((exch (F := F) m).duties (kcell (c, none)) 0 \ ∅) (fun d => (exch (F := F) m).payload (kcell (c, none)) 0 d)
      = bigSep Finset.univ fun j : Fin 3 => barPay j (peer j c) c := by
  rw [Finset.sdiff_empty, duties_bar]
  exact bigSep_congr fun d _ => payload_eq m c none d
/-- What a transfer's wait brings. -/
theorem rest_xfer (c : Dev nD) (y : Yx) :
    bigSep ((exch (F := F) m).duties (kcell (c, some y)) 0 \ ∅) (fun d => (exch (F := F) m).payload (kcell (c, some y)) 0 d)
      = pay m c (some y) 0 := by
  rw [Finset.sdiff_empty, duties_xfer, bigSep_singleton, payload_eq]

/-! ## What the devices owe, and the order of the waits -/

/-- What is owed to the cells of a list, the first of it paid first. -/
def oweL : List (Dev nD × Cx) → CellTallies nD τ sig Unit
  | [] => 0
  | p :: l => oweL l + tallyAt (kcell p) () (amtX p.2)

/-- The copies to the `j`-th device. -/
abbrev sendDues (c : Dev nD) (j : Fin 3) : List (Dev nD × Cx) := [(peer j c, some (true, j, false)), (peer j c, some (true, j, true))]
/-- What a device owes after its barrier's signals: its copies. -/
abbrev dues₁ (c : Dev nD) : List (Dev nD × Cx) := sendDues c 0 ++ (sendDues c 1 ++ (sendDues c 2 ++ []))
abbrev dues (c : Dev nD) : List (Dev nD × Cx) := (peer 0 c, none) :: (peer 1 c, none) :: (peer 2 c, none) :: dues₁ c

def O₀ (c : Dev nD) : CellTallies nD τ sig Unit := oweL (dues c)

theorem oweL_pos {l : List (Dev nD × Cx)} {g : GSem nD τ sig} {u : Unit} (h : 0 < oweL l g u) : ∃ p ∈ l, g = kcell p := by
  induction l with
  | nil => exact absurd h (Nat.lt_irrefl 0)
  | cons p l ih =>
    unfold oweL at h
    rw [Pi.add_apply, Finsupp.add_apply, tallyAt_apply] at h
    by_cases hg : g = kcell p
    · exact ⟨p, List.mem_cons_self, hg⟩
    · rw [if_neg (fun h' => hg h'.1), Nat.add_zero] at h
      obtain ⟨p', h1, h2⟩ := ih h
      exact ⟨p', List.mem_cons_of_mem _ h1, h2⟩

/-- What a list owes a cell. -/
theorem oweL_apply (l : List (Dev nD × Cx)) (p : Dev nD × Cx) : oweL l (kcell p) () = l.count p * amtX p.2 := by
  induction l with
  | nil => rw [List.count_nil, Nat.zero_mul]; rfl
  | cons a l ih =>
    unfold oweL
    rw [Pi.add_apply, Finsupp.add_apply, tallyAt_apply, ih, List.count_cons]
    by_cases h : p = a
    · subst h; rw [if_pos ⟨rfl, rfl⟩, if_pos (beq_self_eq_true _), Nat.add_mul, Nat.one_mul]
    · rw [if_neg (fun h' => h (kcell_inj h'.1)), if_neg (by simpa using fun h' => h (Eq.symm h')), Nat.add_zero]; rfl

def L (g : GSem nD τ sig) : Finset Unit := if g.1.2 = .tc then {()} else ∅
/-- The barriers come first, then the receiving semaphores; the others are below both. -/
def lv (g : GSem nD τ sig) (_ : Unit) : ℕ :=
  match ix? g.2 with | some none => 1 | some (some (true, _, _)) => 2 | _ => 0
theorem L_of_ne (g : GSem nD τ sig) (h : g.1.2 ≠ .tc) : L g = ∅ := if_neg h
theorem L_tc (c : Dev nD) (sm : SemLoc sig) : L ((c : Thread nD τ), sm) = {()} := if_pos rfl

/-- A wait on a semaphore at level `k` while owing only cells above it. -/
theorem mayWait_list (c : Dev nD) (s : SemLoc sig) (l : List (Dev nD × Cx)) (k : ℕ) (hs : lv ((c : Thread nD τ), s) () ≤ k)
    (hl : ∀ p ∈ l, k < lv (kcell p) ()) : (levAts L lv : sProp 𝕄) ⊢ MayWait (c : Thread nD τ) s () (oweL l) :=
  MayOwe.of_cut (L := L) (lev := lv) k (fun p hp => by rw [Finset.mem_singleton.mp hp, L_tc]; exact Finset.mem_singleton_self _)
    (fun g u hg => by obtain ⟨p, -, rfl⟩ := oweL_pos hg; exact Finset.mem_singleton_self _)
    (fun p hp => by rw [Finset.mem_singleton.mp hp]; exact hs)
    (fun g u hg => by obtain ⟨p, hp, rfl⟩ := oweL_pos hg; exact hl p hp)

theorem lv_csem (c : Dev nD) (x : Cx) : lv (kcell (c, x)) () = match x with | none => 1 | some (true, _, _) => 2 | _ => 0 := by
  unfold lv; rw [ix?_csem]
  match x with
  | none => rfl
  | some (true, _, _) => rfl
  | some (false, _, _) => rfl
theorem lv_other (c : Dev nD) (s : SemLoc sig) (h : ∀ x, csem x ≠ s) : lv ((c : Thread nD τ), s) () = 0 := by
  unfold lv; rw [ix?_none h]

theorem dues₁_lv (c : Dev nD) : ∀ p ∈ dues₁ c, 1 < lv (kcell p) () := by
  intro p hp
  simp only [dues₁, sendDues, List.append_nil, List.cons_append, List.nil_append, List.mem_cons, List.not_mem_nil, or_false] at hp
  rcases hp with rfl | rfl | rfl | rfl | rfl | rfl <;> rw [lv_csem] <;> decide
theorem dues_lv (c : Dev nD) : ∀ p ∈ dues c, 0 < lv (kcell p) () := by
  intro p hp
  simp only [dues, List.mem_cons] at hp
  rcases hp with rfl | rfl | rfl | hp
  iterate 3 (rw [lv_csem]; decide)
  exact Nat.zero_lt_of_lt (dues₁_lv c p (by simpa only [List.mem_cons] using hp))

/-- A wait on a semaphore outside the exchange, owing the whole, -/
theorem mayWait_own (c : Dev nD) (s : SemLoc sig) (h : ∀ x, csem x ≠ s) : (levAts L lv : sProp 𝕄) ⊢ MayWait (c : Thread nD τ) s () (O₀ c) :=
  mayWait_list c s (dues c) 0 (lv_other c s h).le (dues_lv c)
/-- owing the copies, -/
theorem mayWait_own₁ (c : Dev nD) (s : SemLoc sig) (h : ∀ x, csem x ≠ s) :
    (levAts L lv : sProp 𝕄) ⊢ MayWait (c : Thread nD τ) s () (oweL (dues₁ c)) :=
  mayWait_list c s (dues₁ c) 0 (lv_other c s h).le fun p hp => Nat.zero_lt_of_lt (dues₁_lv c p hp)
/-- and the barrier's, owing the copies. -/
theorem mayWait_bar (c : Dev nD) : (levAts L lv : sProp 𝕄) ⊢ MayWait (c : Thread nD τ) (.reg barSem) () (oweL (dues₁ c)) :=
  mayWait_list c (csem none) (dues₁ c) 1 (by rw [show ((c : Thread nD τ), csem none) = kcell (c, none) from rfl, lv_csem]) (dues₁_lv c)

/-! ## The launch's credit -/

/-- How many payments a device's semaphore gets from others. -/
abbrev cnt : Cx → ℕ
  | none => 3
  | some (true, _, _) => 1
  | some (false, _, _) => 0

theorem count_dues : ∀ (c : Dev nD) (x : Cx), ∑ d : Dev nD, (dues d).count (c, x) = cnt x := by decide

theorem launch_credit (c : Dev nD) (x : Cx) :
    tallyOn (kcell (c, x)) (launchCredit (Pipeline.owing O₀) 0 (kcell (c, x))) = (tallyAt (kcell (c, x)) () (cnt x * amtX x) : CellTallies nD τ sig Unit) := by
  unfold tallyAt; refine congrArg _ (Finsupp.ext fun u => ?_); cases u
  rw [Pipeline.launchCredit_owing, Finsupp.single_eq_same, ← count_dues c x, Finset.sum_mul]
  exact Finset.sum_congr rfl fun d _ => oweL_apply (dues d) (c, x)

theorem creds (c : Dev nD) :
    (Pipeline.launchCred O₀ c : sProp 𝕄) ⊢ bigSep Finset.univ fun x : Cx => cred (tallyAt (kcell (c, x)) () (cnt x * amtX x)) := by
  unfold Pipeline.launchCred
  refine (bigSep_subset (t := Finset.univ.map ⟨csem, csem_inj⟩) (Finset.subset_univ _)).trans ?_
  rw [bigSep_map]
  exact bigSep_mono fun x _ => Entails.of_eq (congrArg cred (launch_credit c x))

end Cert.KernelIdeal

end
-- ==== Proof.Rows.lean ====
/-
  The loop over rows: the copies of the rows of K and V into the ring, and the work on a row, in any order that
  starts a copy only into a free slot and works on a row only once its copies are in flight.
-/
module

public import proofs.«01_k».proof.Proof.Protocol

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The loop's state -/

/-- Which row is in flight to each slot, which rows have not been copied yet, and which are computed. -/
structure LoopSt where
  slot : Fin 4 → Option (Fin 8)
  fresh : Finset (Fin 8)
  done : Finset (Fin 8)

/-- A step's effect on the state, when its slot allows it. -/
def LoopSt.step (s : LoopSt) : RowOp → Option LoopSt
  | .start j => if s.slot (slotOf j) = none ∧ j ∈ s.fresh then some ⟨Function.update s.slot (slotOf j) (some j), s.fresh.erase j, s.done⟩ else none
  | .row i => if s.slot (slotOf i) = some i then some ⟨Function.update s.slot (slotOf i) none, s.fresh, insert i s.done⟩ else none
/-- A list of steps' effect. -/
def LoopSt.exec : LoopSt → List RowOp → Option LoopSt
  | s, [] => some s
  | s, o :: l => (s.step o).bind fun s' => s'.exec l

/-- The state before the loop and the one after it. -/
def loop₀ : LoopSt := ⟨fun _ => none, Finset.univ, ∅⟩

theorem exec_rowOps : ∃ s : LoopSt, loop₀.exec rowOps = some s ∧ s.slot = (fun _ => none) ∧ s.done = Finset.univ := by
  refine ⟨⟨fun _ => none, ∅, Finset.univ⟩, ?_, rfl, rfl⟩
  have h : ∀ (s t : LoopSt), s.slot = t.slot → s.fresh = t.fresh → s.done = t.done → s = t := by
    rintro ⟨_, _, _⟩ ⟨_, _, _⟩ rfl rfl rfl; rfl
  have e : ∃ s, loop₀.exec rowOps = some s := ⟨_, rfl⟩
  obtain ⟨s, hs⟩ := e
  rw [hs]
  refine congrArg some (h _ _ ?_ ?_ ?_)
  · have : ((loop₀.exec rowOps).map LoopSt.slot) = some (fun _ => none) := by decide
    rw [hs] at this; exact Option.some.inj this
  · have : ((loop₀.exec rowOps).map LoopSt.fresh) = some ∅ := by decide
    rw [hs] at this; exact Option.some.inj this
  · have : ((loop₀.exec rowOps).map LoopSt.done) = some Finset.univ := by decide
    rw [hs] at this; exact Option.some.inj this

/-! ## The resources of the loop -/

abbrev slotBytes (s : Fin 4) : ℕ := (kSlot s).view.dmaCredit
theorem slotBytes_pos (s : Fin 4) : 0 < slotBytes s := View.dmaCredit_pos _ (by decide)

def kSlotPts (c : Dev nD) (s : Fin 4) (f : Buf (Elt F) ((kSlot s).view.loc (c : Thread nD τ))) : sProp 𝕄 :=
  (kSlot s).view.loc (c : Thread nD τ) ↦[(kSlot s).view.set]{fullShare} f
def vSlotPts (c : Dev nD) (s : Fin 4) (f : Buf (Elt F) ((vSlot s).view.loc (c : Thread nD τ))) : sProp 𝕄 :=
  (vSlot s).view.loc (c : Thread nD τ) ↦[(vSlot s).view.set]{fullShare} f
def kRowPts (c : Dev nD) (j : Fin 8) : sProp 𝕄 :=
  (kRow c j).view.loc (c : Thread nD τ) ↦[(kRow c j).view.set]{fullShare} (V m c main_v1)
def vRowPts (c : Dev nD) (j : Fin 8) : sProp 𝕄 :=
  (vRow c j).view.loc (c : Thread nD τ) ↦[(vRow c j).view.set]{fullShare} (V m c main_v2)

/-- Slot `s` holding row `j` of K. -/
def kFull (c : Dev nD) (s : Fin 4) (j : Fin 8) : sProp 𝕄 :=
  iprop(∃ f, ⌜(kSlot s).view.read (Elt F) f = (kRow c j).view.read (Elt F) (V m c main_v1)⌝ ∗ kSlotPts c s f)
def vFull (c : Dev nD) (s : Fin 4) (j : Fin 8) : sProp 𝕄 :=
  iprop(∃ f, ⌜(vSlot s).view.read (Elt F) f = (vRow c j).view.read (Elt F) (V m c main_v2)⌝ ∗ vSlotPts c s f)

/-- A slot with a row in flight, or free. -/
def slotRes (c : Dev nD) (s : Fin 4) : Option (Fin 8) → sProp 𝕄
  | some j => iprop(Transfers.Flight countersEmb (c : Thread nD τ) (.dma (kSem s)) () (slotBytes s) (kFull m c s j)
      ∗ Transfers.Flight countersEmb (c : Thread nD τ) (.dma (vSem s)) () (slotBytes s) (vFull m c s j))
  | none => iprop((∃ f, kSlotPts c s f) ∗ (∃ f, vSlotPts c s f)
      ∗ semVal ((c : Thread nD τ), .dma (kSem s)) 0 ∗ semVal ((c : Thread nD τ), .dma (vSem s)) 0)

/-- The queries as staged. -/
def qPts (c : Dev nD) : sProp 𝕄 := (qM.view.loc (c : Thread nD τ)) ↦[qM.view.set]{fullShare} (qstg m c)

/-- The numerators computed for the rows of `D`. -/
def DoneN (c : Dev nD) (D : Finset (Fin 8)) (f : (cc0_scratch4 : Ref sig .tc).ty.Contents (Elt F)) : Prop :=
  ∀ (i : S16x16x64.Idx) (j : Fin 8), j ∈ D → (i 0).val = 8 * (xOf c).val + j.val → f i = accN m (yOf c) i
def DoneS (c : Dev nD) (D : Finset (Fin 8)) (f : (cc0_scratch5 : Ref sig .tc).ty.Contents (Elt F)) : Prop :=
  ∀ (i : S2x16x16.Idx) (j : Fin 8), j ∈ D → (i 1).val = 8 * (xOf c).val + j.val → f i = accS m (yOf c) i

/-- What device `c` holds in state `s` of the loop. -/
def LoopInv (c : Dev nD) (s : LoopSt) : sProp 𝕄 :=
  iprop((bigSep Finset.univ fun k => slotRes m c k (s.slot k)) ∗ (bigSep s.fresh fun j => iprop(kRowPts m c j ∗ vRowPts m c j))
    ∗ qPts m c ∗ (∃ f, ⌜DoneN m c s.done f⌝ ∗ nPts nM c c fullShare f) ∗ (∃ f, ⌜DoneS m c s.done f⌝ ∗ sPts sM c c fullShare f)
    ∗ ∃ W, owes (c : Thread nD τ) (oweL (dues₁ c)) W)

/-! ## A row's stores -/

theorem storeN_done (c : Dev nD) (i : Fin 8) {D : Finset (Fin 8)} {f} (h : DoneN m c D f) :
    DoneN m c (insert i D) ((nM.access (nRect c i)).write (Elt F) f (numAt m c i) Finset.univ) := by
  intro x j hj hx
  by_cases e : j = i
  · subst e; exact storeN_at m c j f x hx
  · rw [storeN_off c i f _ x (fun h' => e (Fin.ext (by omega)))]
    exact h x j ((Finset.mem_insert.1 hj).resolve_left e) hx
theorem storeS_done (c : Dev nD) (i : Fin 8) {D : Finset (Fin 8)} {f} (h : DoneS m c D f) :
    DoneS m c (insert i D) ((sM.access (lRect c i)).write (Elt F) ((sM.access (mRect c i)).write (Elt F) f (maxAt m c i) Finset.univ) (sumAt m c i) Finset.univ) := by
  intro x j hj hx
  by_cases e : j = i
  · subst e
    have h2 : (x 0).val < 2 := (x 0).isLt
    by_cases h0 : (x 0).val = 0
    · rw [storeL_off c j _ _ x (fun h' => by omega)]
      exact storeM_at m c j f x h0 hx
    · exact storeL_at m c j _ x (by omega) hx
  · rw [storeL_off c i _ _ x (fun h' => e (Fin.ext (by omega))), storeM_off c i _ _ x (fun h' => e (Fin.ext (by omega)))]
    exact h x j ((Finset.mem_insert.1 hj).resolve_left e) hx

theorem halfN_set (c : Dev nD) : (halfN nM c).view.set = (halfRectN c).set := View.set_slice_whole cc0_scratch4 (halfRectN c)
theorem halfS_set (c : Dev nD) : (halfS sM c).view.set = (halfRectS c).set := View.set_slice_whole cc0_scratch5 (halfRectS c)
/-- A whole buffer's elements are named as they are. -/
theorem whole_setOn (b : Ref sig .tc) (M : Finset b.ty.shape.Idx) : (View.whole b).setOn M = M := Finset.map_refl
theorem kSlot_set (s : Fin 4) : (kSlot s).view.set = (slotRect s).set :=
  (View.set_reshape _ _).trans (View.set_slice_whole cc0_scratch0 (slotRect s))
theorem vSlot_set (s : Fin 4) : (vSlot s).view.set = (slotRect s).set :=
  (View.set_reshape _ _).trans (View.set_slice_whole cc0_scratch1 (slotRect s))
theorem kLoad_sub (s : Fin 4) : kB.view.setOn (slotRect s).toLoadRect.set ⊆ (kSlot s).view.set :=
  ((whole_setOn cc0_scratch0 _).trans (kSlot_set s).symm).le
theorem vLoad_sub (s : Fin 4) : vB.view.setOn (slotRect s).toLoadRect.set ⊆ (vSlot s).view.set :=
  ((whole_setOn cc0_scratch1 _).trans (vSlot_set s).symm).le
theorem nRect_sub (c : Dev nD) (i : Fin 8) : (nRect c i).set ⊆ (halfN nM c).view.set := fun x hx => by
  rw [halfN_set, mem_halfN]; have := (mem_nRect c i x).1 hx; omega
theorem mRect_sub (c : Dev nD) (i : Fin 8) : (mRect c i).set ⊆ (halfS sM c).view.set := fun x hx => by
  rw [halfS_set, mem_halfS]; have := (mem_mRect c i x).1 hx; omega
theorem lRect_sub (c : Dev nD) (i : Fin 8) : (lRect c i).set ⊆ (halfS sM c).view.set := fun x hx => by
  rw [halfS_set, mem_halfS]; have := (mem_lRect c i x).1 hx; omega
theorem nLoad_sub (c : Dev nD) (i : Fin 8) : nM.view.setOn (nRect c i).toLoadRect.set ⊆ (halfN nM c).view.set :=
  (whole_setOn cc0_scratch4 _).le.trans (nRect_sub c i)
theorem mLoad_sub (c : Dev nD) (i : Fin 8) : sM.view.setOn (mRect c i).toLoadRect.set ⊆ (halfS sM c).view.set :=
  (whole_setOn cc0_scratch5 _).le.trans (mRect_sub c i)
theorem lLoad_sub (c : Dev nD) (i : Fin 8) : sM.view.setOn (lRect c i).toLoadRect.set ⊆ (halfS sM c).view.set :=
  (whole_setOn cc0_scratch5 _).le.trans (lRect_sub c i)
theorem nStore_sub (c : Dev nD) (i : Fin 8) : (nM.access (nRect c i)).setOn Finset.univ ⊆ (halfN nM c).view.set :=
  (View.set_slice_whole cc0_scratch4 (nRect c i)).le.trans (nRect_sub c i)
theorem mStore_sub (c : Dev nD) (i : Fin 8) : (sM.access (mRect c i)).setOn Finset.univ ⊆ (halfS sM c).view.set :=
  (View.set_slice_whole cc0_scratch5 (mRect c i)).le.trans (mRect_sub c i)
theorem lStore_sub (c : Dev nD) (i : Fin 8) : (sM.access (lRect c i)).setOn Finset.univ ⊆ (halfS sM c).view.set :=
  (View.set_slice_whole cc0_scratch5 (lRect c i)).le.trans (lRect_sub c i)

theorem kSem_own (s : Fin 4) : ∀ x, csem x ≠ .dma (kSem s) := by revert s; decide
theorem vSem_own (s : Fin 4) : ∀ x, csem x ≠ .dma (vSem s) := by revert s; decide

/-! ## The steps -/

/-- Taking slot `k` out of the slots, for any new state of it. -/
theorem slots_at (c : Dev nD) (σ : Fin 4 → Option (Fin 8)) (k : Fin 4) (o : Option (Fin 8)) :
    (bigSep Finset.univ fun k' => slotRes m c k' (σ k')) ⊢
      iprop(slotRes m c k (σ k) ∗ (slotRes m c k o -∗ bigSep Finset.univ fun k' => slotRes m c k' (Function.update σ k o k'))) := by
  rw [bigSep_univ_at _ k, bigSep_univ_at (fun k' => slotRes m c k' (Function.update σ k o k')) k,
    bigSep_congr (s := Finset.univ.erase k) (Ψ := fun k' => slotRes m c k' (Function.update σ k o k'))
      fun k' hk => by rw [Function.update_of_ne (Finset.ne_of_mem_erase hk)]]
  simp only [Function.update_self]
  iintro ⟨H1, H2⟩
  isplitl [H1]; · iexact H1
  iintro H3
  isplitl [H3] <;> iassumption

/-- Taking a row's K and V out of those not copied yet. -/
theorem take_row (c : Dev nD) {R : Finset (Fin 8)} {j : Fin 8} (h : j ∈ R) :
    (bigSep R fun j => iprop(kRowPts m c j ∗ vRowPts m c j) : sProp 𝕄)
      ⊢ iprop((kRowPts m c j ∗ vRowPts m c j) ∗ bigSep (R.erase j) fun j => iprop(kRowPts m c j ∗ vRowPts m c j)) :=
  Entails.of_eq (bigSep_erase h)

/-- Starting row `j`'s copies. -/
theorem wp_startStep (c : Dev nD) (j : Fin 8) (k : P F) (Q : PUnit → sProp 𝕄) :
    iprop(slotRes m c (slotOf j) none ∗ kRowPts m c j ∗ vRowPts m c j)
      ⊢ iprop((slotRes m c (slotOf j) (some j) -∗ wp frame (wpE (defs₀ (F := F)) 𝒱₀ (c : Thread nD τ) none) Set.univ k Q)
          -∗ wp frame (wpE (defs₀ (F := F)) 𝒱₀ (c : Thread nD τ) none) Set.univ (startStep c j k) Q) := by
  unfold slotRes startStep kRowPts vRowPts
  dsimp only
  iintro ⟨⟨⟨%fk, Hk⟩, ⟨%fv, Hv⟩, Hks, Hvs⟩, Hkr, Hvr⟩ HK
  unfold kSlotPts vSlotPts
  iapply (Transfers.wp_dmaLocal countersEmb 𝒱₀ (c : Thread nD τ) none (src := kRow c j) (dst := kSlot (slotOf j)) () (slotBytes (slotOf j)) rfl (slotBytes_pos _) (Finset.Subset.refl _)) $$ [Hkr Hk Hks]
  · isplitl [Hkr]; · iexact Hkr
    isplitl [Hk] <;> iassumption
  iintro Hf1
  iapply (Transfers.wp_dmaLocal countersEmb 𝒱₀ (c : Thread nD τ) none (src := vRow c j) (dst := vSlot (slotOf j)) () (slotBytes (slotOf j)) rfl (slotBytes_pos _) (Finset.Subset.refl _)) $$ [Hvr Hv Hvs]
  · isplitl [Hvr]; · iexact Hvr
    isplitl [Hv] <;> iassumption
  iintro Hf2
  iapply HK
  isplitl [Hf1]
  · iapply (Transfers.Flight_mono countersEmb (c : Thread nD τ) (D' := kFull m c (slotOf j) j) ?_) $$ Hf1
    iintro ⟨H, -⟩
    unfold kFull kSlotPts
    iexists _
    isplitr; swap; · iexact H
    ipureintro
    exact View.read_write_univ _ _
  · iapply (Transfers.Flight_mono countersEmb (c : Thread nD τ) (D' := vFull m c (slotOf j) j) ?_) $$ Hf2
    iintro ⟨H, -⟩
    unfold vFull vSlotPts
    iexists _
    isplitr; swap; · iexact H
    ipureintro
    exact View.read_write_univ _ _

set_option maxHeartbeats 800000 in
/-- The work on row `i`: its copies have landed, its numerators and statistics are stored. -/
theorem wp_rowStep (c : Dev nD) (i : Fin 8) (D : Finset (Fin 8)) (k : P F) (Q : PUnit → sProp 𝕄) :
    iprop(levAts L lv ∗ slotRes m c (slotOf i) (some i) ∗ qPts m c ∗ (∃ f, ⌜DoneN m c D f⌝ ∗ nPts nM c c fullShare f)
        ∗ (∃ f, ⌜DoneS m c D f⌝ ∗ sPts sM c c fullShare f) ∗ ∃ W, owes (c : Thread nD τ) (oweL (dues₁ c)) W)
      ⊢ iprop(((slotRes m c (slotOf i) none ∗ qPts m c ∗ (∃ f, ⌜DoneN m c (insert i D) f⌝ ∗ nPts nM c c fullShare f)
            ∗ (∃ f, ⌜DoneS m c (insert i D) f⌝ ∗ sPts sM c c fullShare f) ∗ ∃ W, owes (c : Thread nD τ) (oweL (dues₁ c)) W)
          -∗ wp frame (wpE (defs₀ (F := F)) 𝒱₀ (c : Thread nD τ) none) Set.univ k Q)
        -∗ wp frame (wpE (defs₀ (F := F)) 𝒱₀ (c : Thread nD τ) none) Set.univ (rowStep c i k) Q) := by
  unfold slotRes rowStep qPts
  dsimp only
  iintro ⟨#Hlev, ⟨Hf1, Hf2⟩, Hq, ⟨%fn, %hfn, Hn⟩, ⟨%fs, %hfs, Hs⟩, ⟨%W, HO⟩⟩ HK
  iapply (Transfers.wp_waitLocalO countersEmb 𝒱₀ (c : Thread nD τ) none (srcw := kRow c i) (dstw := kSlot (slotOf i)) () (N := slotBytes (slotOf i)) rfl) $$ [Hf1 HO]
  · isplitl [Hf1]; · iexact Hf1
    isplitl [HO]; · iexact HO
    iapply (mayWait_own₁ c _ (kSem_own _)); iexact Hlev
  iintro ⟨Hk, Hks, HO⟩
  iapply (Transfers.wp_waitLocalO countersEmb 𝒱₀ (c : Thread nD τ) none (srcw := vRow c i) (dstw := vSlot (slotOf i)) () (N := slotBytes (slotOf i)) rfl) $$ [Hf2 HO]
  · isplitl [Hf2]; · iexact Hf2
    isplitl [HO]; · iexact HO
    iapply (mayWait_own₁ c _ (vSem_own _)); iexact Hlev
  iintro ⟨Hv, Hvs, HO⟩
  unfold kFull vFull kSlotPts vSlotPts nPts sPts
  icases Hk with ⟨%fk, %hk, Hk⟩
  icases Hv with ⟨%fv, %hv, Hv⟩
  iapply (wp_load 𝒱₀ (c : Thread nD τ) none Set.univ (m := qM) (by rw [View.set_whole]; exact Finset.subset_univ _)) $$ Hq; iintro Hq
  iapply (wp_load 𝒱₀ (c : Thread nD τ) none Set.univ (m := kB) (kLoad_sub _)) $$ Hk; iintro Hk
  iapply (wp_load 𝒱₀ (c : Thread nD τ) none Set.univ (m := vB) (vLoad_sub _)) $$ Hv; iintro Hv
  rw [slot_read_k m c i _ fk hk, slot_read_v m c i _ fv hv]
  iapply (wp_load 𝒱₀ (c : Thread nD τ) none Set.univ (m := nM) (nLoad_sub c i)) $$ Hn; iintro Hn
  iapply (wp_store 𝒱₀ (c : Thread nD τ) none Set.univ (m := nM) (r := nRect c i) (Mk := Finset.univ) (nStore_sub c i)) $$ Hn; iintro Hn
  iapply (wp_load 𝒱₀ (c : Thread nD τ) none Set.univ (m := sM) (mLoad_sub c i)) $$ Hs; iintro Hs
  iapply (wp_store 𝒱₀ (c : Thread nD τ) none Set.univ (m := sM) (r := mRect c i) (Mk := Finset.univ) (mStore_sub c i)) $$ Hs; iintro Hs
  iapply (wp_load 𝒱₀ (c : Thread nD τ) none Set.univ (m := sM) (lLoad_sub c i)) $$ Hs; iintro Hs
  iapply (wp_store 𝒱₀ (c : Thread nD τ) none Set.univ (m := sM) (r := lRect c i) (Mk := Finset.univ) (lStore_sub c i)) $$ Hs; iintro Hs
  iapply HK
  isplitl [Hk Hv Hks Hvs]
  · isplitl [Hk]; · iexists _; iexact Hk
    isplitl [Hv]; · iexists _; iexact Hv
    isplitl [Hks] <;> iassumption
  isplitl [Hq]; · iexact Hq
  isplitl [Hn]
  · iexists _; isplitr; swap; · iexact Hn
    ipureintro; exact storeN_done m c i hfn
  isplitl [Hs]
  · iexists _; isplitr; swap; · iexact Hs
    ipureintro; exact storeS_done m c i hfs
  iexists _; iexact HO

/-- The loop, step by step: from any state its steps take to `s'`, it ends with what `s'` says. -/
theorem wp_runOps (c : Dev nD) (k : P F) (Q : PUnit → sProp 𝕄) (s' : LoopSt) : ∀ (l : List RowOp) (s : LoopSt), s.exec l = some s' →
    iprop(levAts L lv ∗ LoopInv m c s)
      ⊢ iprop((LoopInv m c s' -∗ wp frame (wpE (defs₀ (F := F)) 𝒱₀ (c : Thread nD τ) none) Set.univ k Q)
          -∗ wp frame (wpE (defs₀ (F := F)) 𝒱₀ (c : Thread nD τ) none) Set.univ (runOps c l k) Q)
  | [], s, h => by
    obtain rfl : s = s' := Option.some.inj h
    iintro ⟨-, H⟩ HK
    unfold runOps
    iapply HK; iexact H
  | .start j :: l, s, h => by
    obtain ⟨s₁, h₁, h₂⟩ := Option.bind_eq_some_iff.1 h
    unfold LoopSt.step at h₁
    dsimp only at h₁
    split at h₁
    case isFalse => cases h₁
    case isTrue hs =>
      obtain rfl := Option.some.inj h₁
      have ih := wp_runOps c k Q s' l _ h₂
      rw [show runOps c (.start j :: l) k = startStep c j (runOps c l k) from rfl]
      unfold LoopInv at *
      dsimp only at *
      iintro ⟨#Hlev, Hsl, Hfr, Hrest⟩ HK
      ihave Hsl := (slots_at m c s.slot (slotOf j) (some j)) $$ Hsl
      icases Hsl with ⟨H1, Hback⟩
      ihave H1 := (Entails.of_eq (congrArg (slotRes m c (slotOf j)) hs.1)) $$ H1
      ihave Hfr := (take_row m c hs.2) $$ Hfr
      icases Hfr with ⟨⟨Hkr, Hvr⟩, Hfr⟩
      iapply (wp_startStep m c j) $$ [H1 Hkr Hvr]
      · isplitl [H1]; · iexact H1
        isplitl [Hkr] <;> iassumption
      iintro H1
      iapply ih $$ [H1 Hback Hfr Hrest]
      · isplitr; · iexact Hlev
        isplitl [H1 Hback]; · iapply Hback; iexact H1
        isplitl [Hfr] <;> iassumption
      iexact HK
  | .row i :: l, s, h => by
    obtain ⟨s₁, h₁, h₂⟩ := Option.bind_eq_some_iff.1 h
    unfold LoopSt.step at h₁
    dsimp only at h₁
    split at h₁
    case isFalse => cases h₁
    case isTrue hs =>
      obtain rfl := Option.some.inj h₁
      have ih := wp_runOps c k Q s' l _ h₂
      rw [show runOps c (.row i :: l) k = rowStep c i (runOps c l k) from rfl]
      unfold LoopInv at *
      dsimp only at *
      iintro ⟨#Hlev, Hsl, Hfr, Hrest⟩ HK
      ihave Hsl := (slots_at m c s.slot (slotOf i) none) $$ Hsl
      icases Hsl with ⟨H1, Hback⟩
      ihave H1 := (Entails.of_eq (congrArg (slotRes m c (slotOf i)) hs)) $$ H1
      iapply (wp_rowStep m c i s.done) $$ [H1 Hrest]
      · isplitr; · iexact Hlev
        isplitl [H1]; · iexact H1
        iexact Hrest
      iintro ⟨H1, Hrest⟩
      iapply ih $$ [H1 Hback Hfr Hrest]
      · isplitr; · iexact Hlev
        isplitl [H1 Hback]; · iapply Hback; iexact H1
        isplitl [Hfr] <;> iassumption
      iexact HK

end Cert.KernelIdeal

end
-- ==== Proof.Exchange.lean ====
/-
  The copies of a device's half to the other devices, the waits for them, and the merge of the two blocks of the
  sequence.
-/
module

public import proofs.«01_k».proof.Proof.Rows

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' invariants -/

/-- Every device's barrier cell, and every transfer's. -/
def barCells : Finset (GSem nD τ sig) := Finset.univ.map ⟨fun c : Dev nD => kcell (c, none), fun a b h => congrArg Prod.fst (kcell_inj h)⟩
def xferCells : Finset (GSem nD τ sig) :=
  Finset.univ.map ⟨fun p : Dev nD × Yx => kcell (p.1, some p.2), fun a b h => by
    have h' := Prod.mk.inj (kcell_inj h)
    exact Prod.ext h'.1 (Option.some.inj h'.2)⟩

theorem mem_cells (c : Dev nD) (x : Cx) : kcell (c, x) ∈ barCells ∪ xferCells := by
  match x with
  | none => exact Finset.mem_union_left _ (Finset.mem_map.2 ⟨c, Finset.mem_univ _, rfl⟩)
  | some y => exact Finset.mem_union_right _ (Finset.mem_map.2 ⟨(c, y), Finset.mem_univ _, rfl⟩)

/-- The invariants of all the cells, under names `κ`. -/
def invs (κ : GSem nD τ sig → ℕ) : sProp 𝕄 := bigSep (barCells ∪ xferCells) fun g => cellInv EB (exch m) (κ g) g
instance invs_persistent (κ : GSem nD τ sig → ℕ) : BI.Persistent (invs m κ) := by unfold invs; infer_instance
theorem inv_at (κ : GSem nD τ sig → ℕ) (c : Dev nD) (x : Cx) : invs m κ ⊢ cellInv EB (exch m) (κ (kcell (c, x))) (kcell (c, x)) :=
  bigSep_elim (mem_cells c x)

variable (κ : GSem nD τ sig → ℕ)

/-! ## The copies -/

theorem amtN_eq (j : Fin 3) (c : Dev nD) : (halfN (dstN j) c).view.dmaCredit = amtN := by
  match j with | 0 => rfl | 1 => rfl | 2 => rfl
theorem amtS_eq (j : Fin 3) (c : Dev nD) : (halfS (dstS j) c).view.dmaCredit = amtS := by
  match j with | 0 => rfl | 1 => rfl | 2 => rfl

theorem amtN_own (c : Dev nD) : (halfN nM c).view.dmaCredit = amtN := rfl
theorem amtS_own (c : Dev nD) : (halfS sM c).view.dmaCredit = amtS := rfl
theorem mem_duty (c : Dev nD) (y : Yx) : (0 : Fin 3) ∈ (exch (F := F) m).duties (kcell (c, some y)) 0 := by
  rw [duties_xfer]; exact Finset.mem_singleton_self _
theorem pay_recvN (c : Dev nD) (j : Fin 3) : pay m (peer j c) (some (true, j, false)) 0 = landN m j c (peer j c) := by
  show landN m j (peer j (peer j c)) (peer j c) = _
  rw [peer_peer]
theorem pay_recvS (c : Dev nD) (j : Fin 3) : pay m (peer j c) (some (true, j, true)) 0 = landS m j c (peer j c) := by
  show landS m j (peer j (peer j c)) (peer j c) = _
  rw [peer_peer]

/-- Copying the numerators to the `j`-th other device. -/
theorem wp_sendN (c n : Dev nD) (j : Fin 3) (hn : n = peer j c) {hsc : (halfN (dstN j) c).view.ref.isScScratch = false}
    {hsrc : (halfN nM c).view.WordExact} {hdst : (halfN (dstN j) c).view.WordExact}
    {hsem : DmaTarget.Typed .vmem (.dma (recvSem (evn j))) (.remote (Dev.tc n : Thread nD τ) (halfN (dstN j) c) (.dma (sendSem (evn j))) hsc)}
    {k : PUnit → P F} {Q : PUnit → sProp 𝕄} (rest : List (Dev nD × Cx)) (W : Waits sig Unit) :
    iprop(invs m κ ∗ srcN m c (qOf j) ∗ (∃ f, nPts (dstN j) c (peer j c) fullShare f)
        ∗ owes (c : Thread nD τ) (oweL ((peer j c, some (true, j, false)) :: rest)) W
        ∗ dutyTok EB (kcell (c, some (false, j, false))) 0 0 ∗ reached EB (kcell (c, some (false, j, false))) 0
        ∗ dutyTok EB (kcell (peer j c, some (true, j, false))) 0 0 ∗ reached EB (kcell (peer j c, some (true, j, false))) 0)
      ⊢ iprop(((cred (tallyAt (kcell (c, some (false, j, false))) () amtN) ∗ owes (c : Thread nD τ) (oweL rest) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfN nM c) (.remote (Dev.tc n : Thread nD τ) (halfN (dstN j) c) (.dma (sendSem (evn j))) hsc) (.dma (recvSem (evn j))) hsrc hdst hsem) k) Q) := by
  subst hn
  unfold srcN nPts
  iintro ⟨#HI, Hs, ⟨%fd, Hd⟩, HO, Ht1, Hr1, Ht2, Hr2⟩
  iapply (Rounds.wp_send_pointsTo 𝒱₀ EB (exch m) (c : Thread nD τ) none (κ₁ := κ (kcell (c, some (false, j, false)))) (κ₂ := κ (kcell (peer j c, some (true, j, false))))
    (r₁ := 0) (r₂ := 0) (d₁ := 0) (d₂ := 0) (fd := fd)
    (mem_duty m c (false, j, false)) (mem_duty m (peer j c) (true, j, false))
    () () amtN (show (halfN (dstN j) c).view.amount (.dma (recvSem (evn j))) = amtN from amtN_eq j c) (amount_eq m c (some (false, j, false)) 0) (amount_eq m (peer j c) (some (true, j, false)) 0) (oweL rest) rfl (W := W)
    (Entails.of_eq (payload_eq m c (some (false, j, false)) 0).symm)
    (by
      refine BIBase.Entails.trans (Q := landN m j c (peer j c)) ?_ ((Entails.of_eq (pay_recvN m c j).symm).trans (Entails.of_eq (payload_eq m (peer j c) (some (true, j, false)) 0).symm))
      unfold landN nPts
      iintro H
      iexists _
      isplitr; swap; · iexact H
      ipureintro
      exact View.read_write_univ _ _))
  isplitr; · iapply (inv_at m κ c (some (false, j, false))); iexact HI
  isplitr; · iapply (inv_at m κ (peer j c) (some (true, j, false))); iexact HI
  isplitl [Hs]; · iexact Hs
  isplitl [Hd]; · iexact Hd
  isplitl [HO]; · iexact HO
  isplitl [Ht1]; · iexact Ht1
  isplitl [Hr1]; · iexact Hr1
  isplitl [Ht2] <;> iassumption

/-- Copying the statistics to the `j`-th other device. -/
theorem wp_sendS (c n : Dev nD) (j : Fin 3) (hn : n = peer j c) {hsc : (halfS (dstS j) c).view.ref.isScScratch = false}
    {hsrc : (halfS sM c).view.WordExact} {hdst : (halfS (dstS j) c).view.WordExact}
    {hsem : DmaTarget.Typed .vmem (.dma (recvSem (odd j))) (.remote (Dev.tc n : Thread nD τ) (halfS (dstS j) c) (.dma (sendSem (odd j))) hsc)}
    {k : PUnit → P F} {Q : PUnit → sProp 𝕄} (rest : List (Dev nD × Cx)) (W : Waits sig Unit) :
    iprop(invs m κ ∗ srcS m c (qOf j) ∗ (∃ f, sPts (dstS j) c (peer j c) fullShare f)
        ∗ owes (c : Thread nD τ) (oweL ((peer j c, some (true, j, true)) :: rest)) W
        ∗ dutyTok EB (kcell (c, some (false, j, true))) 0 0 ∗ reached EB (kcell (c, some (false, j, true))) 0
        ∗ dutyTok EB (kcell (peer j c, some (true, j, true))) 0 0 ∗ reached EB (kcell (peer j c, some (true, j, true))) 0)
      ⊢ iprop(((cred (tallyAt (kcell (c, some (false, j, true))) () amtS) ∗ owes (c : Thread nD τ) (oweL rest) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfS sM c) (.remote (Dev.tc n : Thread nD τ) (halfS (dstS j) c) (.dma (sendSem (odd j))) hsc) (.dma (recvSem (odd j))) hsrc hdst hsem) k) Q) := by
  subst hn
  unfold srcS sPts
  iintro ⟨#HI, Hs, ⟨%fd, Hd⟩, HO, Ht1, Hr1, Ht2, Hr2⟩
  iapply (Rounds.wp_send_pointsTo 𝒱₀ EB (exch m) (c : Thread nD τ) none (κ₁ := κ (kcell (c, some (false, j, true)))) (κ₂ := κ (kcell (peer j c, some (true, j, true))))
    (r₁ := 0) (r₂ := 0) (d₁ := 0) (d₂ := 0) (fd := fd)
    (mem_duty m c (false, j, true)) (mem_duty m (peer j c) (true, j, true))
    () () amtS (show (halfS (dstS j) c).view.amount (.dma (recvSem (odd j))) = amtS from amtS_eq j c) (amount_eq m c (some (false, j, true)) 0) (amount_eq m (peer j c) (some (true, j, true)) 0) (oweL rest) rfl (W := W)
    (Entails.of_eq (payload_eq m c (some (false, j, true)) 0).symm)
    (by
      refine BIBase.Entails.trans (Q := landS m j c (peer j c)) ?_ ((Entails.of_eq (pay_recvS m c j).symm).trans (Entails.of_eq (payload_eq m (peer j c) (some (true, j, true)) 0).symm))
      unfold landS sPts
      iintro H
      iexists _
      isplitr; swap; · iexact H
      ipureintro
      exact View.read_write_univ _ _))
  isplitr; · iapply (inv_at m κ c (some (false, j, true))); iexact HI
  isplitr; · iapply (inv_at m κ (peer j c) (some (true, j, true))); iexact HI
  isplitl [Hs]; · iexact Hs
  isplitl [Hd]; · iexact Hd
  isplitl [HO]; · iexact HO
  isplitl [Ht1]; · iexact Ht1
  isplitl [Hr1]; · iexact Hr1
  isplitl [Ht2] <;> iassumption

/-- What device `c` needs for its copies to its `j`-th other device, besides what the barrier brings. -/
def sendToks (c : Dev nD) (j : Fin 3) : sProp 𝕄 :=
  iprop((dutyTok EB (kcell (c, some (false, j, false))) 0 0 ∗ dutyTok EB (kcell (c, some (false, j, true))) 0 0)
    ∗ dutyTok EB (kcell (peer j c, some (true, j, false))) 0 0 ∗ dutyTok EB (kcell (peer j c, some (true, j, true))) 0 0
    ∗ reached EB (kcell (c, some (false, j, false))) 0 ∗ reached EB (kcell (c, some (false, j, true))) 0)

/-- The credit of the copies sent. -/
def sentCred (c : Dev nD) (j : Fin 3) : sProp 𝕄 :=
  iprop(cred (tallyAt (kcell (c, some (false, j, false))) () amtN) ∗ cred (tallyAt (kcell (c, some (false, j, true))) () amtS))

/-- Both copies to the `j`-th other device. -/
theorem wp_sendStep (c : Dev nD) (j : Fin 3) (rest : List (Dev nD × Cx)) (k : P F) (Q : PUnit → sProp 𝕄) :
    iprop(invs m κ ∗ srcN m c (qOf j) ∗ srcS m c (qOf j) ∗ barPay j (peer j c) c ∗ sendToks c j
        ∗ ∃ W, owes (c : Thread nD τ) (oweL (sendDues c j ++ rest)) W)
      ⊢ iprop(((sentCred c j ∗ ∃ W, owes (c : Thread nD τ) (oweL rest) W)
            -∗ wp frame (wpE (defs₀ (F := F)) 𝒱₀ (c : Thread nD τ) none) Set.univ k Q)
          -∗ wp frame (wpE (defs₀ (F := F)) 𝒱₀ (c : Thread nD τ) none) Set.univ (sendStep c j k) Q) := by
  unfold sendStep barPay sendToks sentCred
  iintro ⟨#HI, Hn, Hs, ⟨Hdn, Hds, Hrn, Hrs⟩, ⟨⟨Ht1, Ht2⟩, Ht3, Ht4, Hr1, Hr2⟩, ⟨%W, HO⟩⟩ HK
  iapply (wp_sendN m κ c _ j (devN_eq j c) ((peer j c, some (true, j, true)) :: rest) W) $$ [Hn Hdn HO Ht1 Hr1 Ht3 Hrn]
  · isplitr; · iexact HI
    isplitl [Hn]; · iexact Hn
    isplitl [Hdn]; · iexact Hdn
    isplitl [HO]; · iexact HO
    isplitl [Ht1]; · iexact Ht1
    isplitl [Hr1]; · iexact Hr1
    isplitl [Ht3] <;> iassumption
  iintro ⟨Hc1, HO⟩
  iapply (wp_sendS m κ c _ j (devS_eq j c) rest W) $$ [Hs Hds HO Ht2 Hr2 Ht4 Hrs]
  · isplitr; · iexact HI
    isplitl [Hs]; · iexact Hs
    isplitl [Hds]; · iexact Hds
    isplitl [HO]; · iexact HO
    isplitl [Ht2]; · iexact Ht2
    isplitl [Hr2]; · iexact Hr2
    isplitl [Ht4] <;> iassumption
  iintro ⟨Hc2, HO⟩
  iapply HK
  isplitl [Hc1 Hc2]
  · isplitl [Hc1] <;> iassumption
  iexists W; iexact HO

/-! ## The waits -/

/-- A wait on a transfer's semaphore, owing nothing: what it hands over, and the counter at zero again. -/
theorem wp_waitXfer (c : Dev nD) (y : Yx) {s : Shape} {src dst : Memref sig .tc .vmem s .f32} {d : DmaSem sig} (hd : csem (some y) = .dma d)
    (hamt : dst.view.dmaCredit = amtOf y.2.2) {hsrc : src.view.WordExact} {hdst : dst.view.WordExact}
    (k : PUnit → P F) (Q : PUnit → sProp 𝕄) :
    iprop(invs m κ ∗ cred (tallyAt (kcell (c, some y)) () (amtOf y.2.2)) ∗ atPos EB (kcell (c, some y)) 0 ∅ 0 ∗ ∃ W, owes (c : Thread nD τ) 0 W)
      ⊢ iprop(((pay m c (some y) 0 ∗ semVal (kcell (c, some y)) 0 ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 d src dst hsrc hdst) k) Q) := by
  iintro ⟨#HI, Hc, Ha, ⟨%W, HO⟩⟩ HK
  iapply (Rounds.wp_wait_rest_token 𝒱₀ EB (exch m) (c : Thread nD τ) none (κ := κ (kcell (c, some y)))
      (fun K => (wpE_waitDma2_eq 𝒱₀ (c : Thread nD τ) none Set.univ K).trans (by rw [hamt, ← hd])) (Set.mem_univ _) () (O := 0) (W := W) (R := 0) (m := 0) (T := ∅)
      (by rw [Nat.zero_add]; exact (expect_xfer m c y).symm)) $$ [Hc Ha HO]
  · isplitr; · iapply (inv_at m κ c (some y)); iexact HI
    isplitl [Hc]; · iexact Hc
    isplitl [HO]; · iexact HO
    isplitr; · rw [MayWait_zero]; iempintro
    iexact Ha
  iintro ⟨HO, Ha, -, Hp⟩
  ihave Hp := (Entails.of_eq (rest_xfer m c y)) $$ Hp
  imod (Rounds.cell_close EB (exch m) (Set.mem_univ (κ (kcell (c, some y)))) (fun h => h) (R := 0 + 1) (duties_later m (kcell (c, some y)))) $$ [Ha] with Hz
  · isplitr; · iapply (inv_at m κ c (some y)); iexact HI
    iexact Ha
  iapply HK
  isplitl [Hp]; · iexact Hp
  isplitl [Hz]; · iexact Hz
  iexists _; iexact HO

/-- What the waits for the `j`-th other device need, and what they bring. -/
def waitNeeds (c : Dev nD) (j : Fin 3) : sProp 𝕄 :=
  iprop((cred (tallyAt (kcell (c, some (true, j, false))) () amtN) ∗ cred (tallyAt (kcell (c, some (true, j, true))) () amtS))
    ∗ atPos EB (kcell (c, some (false, j, false))) 0 ∅ 0 ∗ atPos EB (kcell (c, some (false, j, true))) 0 ∅ 0
    ∗ atPos EB (kcell (c, some (true, j, false))) 0 ∅ 0 ∗ atPos EB (kcell (c, some (true, j, true))) 0 ∅ 0)
/-- The transfers' semaphores with the `j`-th other device at zero. -/
def zeros (c : Dev nD) (j : Fin 3) : sProp 𝕄 :=
  iprop(semVal (kcell (c, some (false, j, false))) 0 ∗ semVal (kcell (c, some (false, j, true))) 0
    ∗ semVal (kcell (c, some (true, j, false))) 0 ∗ semVal (kcell (c, some (true, j, true))) 0)

/-- The waits for the copies to and from the `j`-th other device. -/
theorem wp_waitStep (c : Dev nD) (j : Fin 3) (k : P F) (Q : PUnit → sProp 𝕄) :
    iprop(invs m κ ∗ sentCred c j ∗ waitNeeds c j ∗ ∃ W, owes (c : Thread nD τ) 0 W)
      ⊢ iprop((((srcN m c (qOf j) ∗ srcS m c (qOf j)) ∗ (landN m j (peer j c) c ∗ landS m j (peer j c) c) ∗ zeros c j ∗ ∃ W, owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (waitStep c j k) Q) := by
  unfold waitStep sentCred waitNeeds zeros
  iintro ⟨#HI, ⟨Hc1, Hc2⟩, ⟨⟨Hc3, Hc4⟩, Ha1, Ha2, Ha3, Ha4⟩, HO⟩ HK
  iapply (wp_waitXfer m κ c (false, j, false) rfl (amtN_own c) _ Q) $$ [Hc1 Ha1 HO]
  · isplitr; · iexact HI
    isplitl [Hc1]; · iexact Hc1
    isplitl [Ha1] <;> iassumption
  iintro ⟨Hp1, Hz1, HO⟩
  ihave Hp1 := (Entails.of_eq (show pay m c (some (false, j, false)) 0 = srcN m c (qOf j) from rfl)) $$ Hp1
  iapply (wp_waitXfer m κ c (true, j, false) rfl (amtN_eq j c) _ Q) $$ [Hc3 Ha3 HO]
  · isplitr; · iexact HI
    isplitl [Hc3]; · iexact Hc3
    isplitl [Ha3] <;> iassumption
  iintro ⟨Hp3, Hz3, HO⟩
  ihave Hp3 := (Entails.of_eq (show pay m c (some (true, j, false)) 0 = landN m j (peer j c) c from rfl)) $$ Hp3
  iapply (wp_waitXfer m κ c (false, j, true) rfl (amtS_own c) _ Q) $$ [Hc2 Ha2 HO]
  · isplitr; · iexact HI
    isplitl [Hc2]; · iexact Hc2
    isplitl [Ha2] <;> iassumption
  iintro ⟨Hp2, Hz2, HO⟩
  ihave Hp2 := (Entails.of_eq (show pay m c (some (false, j, true)) 0 = srcS m c (qOf j) from rfl)) $$ Hp2
  iapply (wp_waitXfer m κ c (true, j, true) rfl (amtS_eq j c) _ Q) $$ [Hc4 Ha4 HO]
  · isplitr; · iexact HI
    isplitl [Hc4]; · iexact Hc4
    isplitl [Ha4] <;> iassumption
  iintro ⟨Hp4, Hz4, HO⟩
  ihave Hp4 := (Entails.of_eq (show pay m c (some (true, j, true)) 0 = landS m j (peer j c) c from rfl)) $$ Hp4
  iapply HK
  isplitl [Hp1 Hp2]
  · isplitl [Hp1]; · iexact Hp1
    iexact Hp2
  isplitl [Hp3 Hp4]
  · isplitl [Hp3]; · iexact Hp3
    iexact Hp4
  isplitr [HO]; swap; · iexact HO
  isplitl [Hz1]; · iexact Hz1
  isplitl [Hz2]; · iexact Hz2
  isplitl [Hz3] <;> iassumption

end Cert.KernelIdeal

end
-- ==== Proof.Buffers.lean ====
/-
  Buffers in pieces: the accumulators in halves, the staging buffers in slots, the keys and values in rows.
-/
module

public import proofs.«01_k».proof.Proof.Exchange

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Points-to in pieces -/

/-- A whole buffer is a set of its elements and the set of the others. -/
theorem pts_halves {ℓ : Loc nD τ sig} {A B : Finset (Idx ℓ)} (h : Finset.univ \ A = B) (q : PosShare TreeShare) (f : Buf (Elt F) ℓ) :
    (ℓ ↦{q} f : sProp 𝕄) ⊣⊢ iprop((ℓ ↦[A]{q} f) ∗ ℓ ↦[B]{q} f) := by
  subst h; exact pointsTo_split_subset (Finset.subset_univ A)

/-- Two halves at any contents are a whole buffer at some. -/
theorem pts_join {ℓ : Loc nD τ sig} {A B : Finset (Idx ℓ)} (h : Finset.univ \ A = B) :
    iprop((∃ f, ℓ ↦[A]{fullShare} f) ∗ ∃ f, ℓ ↦[B]{fullShare} f) ⊢ (iprop(∃ f, ℓ ↦{fullShare} f) : sProp 𝕄) := by
  subst h
  have hd : Disjoint A (Finset.univ \ A) := Finset.disjoint_sdiff
  iintro ⟨⟨%f, Hf⟩, ⟨%g, Hg⟩⟩
  ihave H := (pointsTo_join hd) $$ [Hf Hg]
  · isplitl [Hf] <;> iassumption
  ihave H := (Entails.of_eq (show (ℓ ↦[A ∪ (Finset.univ \ A)]{fullShare} ((Finset.univ \ A).piecewise g f) : sProp 𝕄) = (ℓ ↦{fullShare} ((Finset.univ \ A).piecewise g f)) from by rw [Finset.union_sdiff_of_subset (Finset.subset_univ A)])) $$ H
  iexists _; iexact H

/-- Reading the same through a view is agreeing on its elements. -/
theorem agree_of_read {sp : Space} {s : Shape} {e : EltTy} {v : View sig .tc sp s e} {f g : v.ty.Contents (Elt F)}
    (h : v.read (Elt F) f = v.read (Elt F) g) : ∀ i ∈ v.set, f i = g i := by
  intro i hi
  obtain ⟨x, -, rfl⟩ := Finset.mem_map.1 hi
  exact (_root_.cast_inj _).1 (congrFun h x)

/-- Two parts of a whole buffer, both agreeing with the same contents. -/
theorem pts_join_at {ℓ : Loc nD τ sig} {A B : Finset (Idx ℓ)} (h : Finset.univ \ A = B) (w f g : Buf (Elt F) ℓ)
    (hf : ∀ i ∈ A, f i = w i) (hg : ∀ i ∈ B, g i = w i) :
    iprop((ℓ ↦[A]{fullShare} f) ∗ ℓ ↦[B]{fullShare} g) ⊢ (ℓ ↦{fullShare} w : sProp 𝕄) := by
  rw [pointsTo_congr hf, pointsTo_congr hg]
  exact (pts_halves h fullShare w).2

/-! ## The halves -/

theorem halfRN_set (c : Dev nD) : (halfN rnM c).view.set = (halfRectN c).set := View.set_slice_whole cc0_scratch6 (halfRectN c)
theorem halfRS_set (c : Dev nD) : (halfS rsM c).view.set = (halfRectS c).set := View.set_slice_whole cc0_scratch7 (halfRectS c)
theorem nPts_own (p c : Dev nD) (q : PosShare TreeShare) (f : Buf (Elt F) ((c : Thread nD τ).loc cc0_scratch4)) :
    (nPts nM p c q f : sProp 𝕄) = (((c : Thread nD τ).loc cc0_scratch4) ↦[(halfRectN p).set]{q} f) :=
  congrArg (fun A : Finset (Idx ((c : Thread nD τ).loc cc0_scratch4)) => (((c : Thread nD τ).loc cc0_scratch4) ↦[A]{q} f : sProp 𝕄)) (halfN_set p)
theorem sPts_own (p c : Dev nD) (q : PosShare TreeShare) (f : Buf (Elt F) ((c : Thread nD τ).loc cc0_scratch5)) :
    (sPts sM p c q f : sProp 𝕄) = (((c : Thread nD τ).loc cc0_scratch5) ↦[(halfRectS p).set]{q} f) :=
  congrArg (fun A : Finset (Idx ((c : Thread nD τ).loc cc0_scratch5)) => (((c : Thread nD τ).loc cc0_scratch5) ↦[A]{q} f : sProp 𝕄)) (halfS_set p)
theorem nPts_rem (p c : Dev nD) (q : PosShare TreeShare) (f : Buf (Elt F) ((c : Thread nD τ).loc cc0_scratch6)) :
    (nPts rnM p c q f : sProp 𝕄) = (((c : Thread nD τ).loc cc0_scratch6) ↦[(halfRectN p).set]{q} f) :=
  congrArg (fun A : Finset (Idx ((c : Thread nD τ).loc cc0_scratch6)) => (((c : Thread nD τ).loc cc0_scratch6) ↦[A]{q} f : sProp 𝕄)) (halfRN_set p)
theorem sPts_rem (p c : Dev nD) (q : PosShare TreeShare) (f : Buf (Elt F) ((c : Thread nD τ).loc cc0_scratch7)) :
    (sPts rsM p c q f : sProp 𝕄) = (((c : Thread nD τ).loc cc0_scratch7) ↦[(halfRectS p).set]{q} f) :=
  congrArg (fun A : Finset (Idx ((c : Thread nD τ).loc cc0_scratch7)) => (((c : Thread nD τ).loc cc0_scratch7) ↦[A]{q} f : sProp 𝕄)) (halfRS_set p)
theorem own_halfN (c : Dev nD) : (Finset.univ : Finset (Idx ((c : Thread nD τ).loc cc0_scratch4))) \ (halfRectN c).set = (halfRectN (peer 0 c)).set :=
  halfN_compl (xOf_peer0 c).symm
theorem own_halfS (c : Dev nD) : (Finset.univ : Finset (Idx ((c : Thread nD τ).loc cc0_scratch5))) \ (halfRectS c).set = (halfRectS (peer 0 c)).set :=
  halfS_compl (xOf_peer0 c).symm
theorem rem_halfN (c : Dev nD) : (Finset.univ : Finset (Idx ((c : Thread nD τ).loc cc0_scratch6))) \ (halfRectN (peer 1 c)).set = (halfRectN (peer 2 c)).set :=
  halfN_compl (xOf_peer12 c)
theorem rem_halfS (c : Dev nD) : (Finset.univ : Finset (Idx ((c : Thread nD τ).loc cc0_scratch7))) \ (halfRectS (peer 1 c)).set = (halfRectS (peer 2 c)).set :=
  halfS_compl (xOf_peer12 c)

/-- The four accumulators of a device, whole, at any contents. -/
def accBufs (c : Dev nD) : sProp 𝕄 :=
  iprop((∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

/-- Where the `j`-th other device's half is to land. -/
def landing (c : Dev nD) (j : Fin 3) : sProp 𝕄 :=
  iprop((∃ f, nPts (F := F) (dstN j) (peer j c) c fullShare f) ∗ ∃ f, sPts (F := F) (dstS j) (peer j c) c fullShare f)

/-- The accumulators split into a device's own half and the landing halves of the three others. -/
theorem accBufs_split (c : Dev nD) :
    (accBufs c : sProp 𝕄) ⊢ iprop((∃ f, nPts nM c c fullShare f) ∗ (∃ f, sPts sM c c fullShare f) ∗ landing c 0 ∗ landing c 1 ∗ landing c 2) := by
  unfold accBufs landing
  iintro ⟨⟨%f4, H4⟩, ⟨%f5, H5⟩, ⟨%f6, H6⟩, ⟨%f7, H7⟩⟩
  ihave H4 := ((pts_halves (own_halfN c) fullShare f4).1.trans (BI.Laws.sep_mono (Entails.of_eq (nPts_own c c fullShare f4).symm) (Entails.of_eq (nPts_own (peer 0 c) c fullShare f4).symm))) $$ H4
  ihave H5 := ((pts_halves (own_halfS c) fullShare f5).1.trans (BI.Laws.sep_mono (Entails.of_eq (sPts_own c c fullShare f5).symm) (Entails.of_eq (sPts_own (peer 0 c) c fullShare f5).symm))) $$ H5
  ihave H6 := ((pts_halves (rem_halfN c) fullShare f6).1.trans (BI.Laws.sep_mono (Entails.of_eq (nPts_rem (peer 1 c) c fullShare f6).symm) (Entails.of_eq (nPts_rem (peer 2 c) c fullShare f6).symm))) $$ H6
  ihave H7 := ((pts_halves (rem_halfS c) fullShare f7).1.trans (BI.Laws.sep_mono (Entails.of_eq (sPts_rem (peer 1 c) c fullShare f7).symm) (Entails.of_eq (sPts_rem (peer 2 c) c fullShare f7).symm))) $$ H7
  icases H4 with ⟨H4, H4'⟩
  icases H5 with ⟨H5, H5'⟩
  icases H6 with ⟨H6, H6'⟩
  icases H7 with ⟨H7, H7'⟩
  isplitl [H4]; · iexists f4; iexact H4
  isplitl [H5]; · iexists f5; iexact H5
  isplitl [H4' H5']
  · isplitl [H4']; · iexists f4; iexact H4'
    iexists f5; iexact H5'
  isplitl [H6 H7]
  · isplitl [H6]; · iexists f6; iexact H6
    iexists f7; iexact H7
  isplitl [H6']; · iexists f6; iexact H6'
  iexists f7; iexact H7'

/-- The four accumulators, exchanged: the device's own block of the sequence, and the other. -/
def accFull (c : Dev nD) : sProp 𝕄 :=
  iprop((((c : Thread nD τ).loc cc0_scratch4) ↦{fullShare} (accN m (yOf c)))
    ∗ (((c : Thread nD τ).loc cc0_scratch5) ↦{fullShare} (accS m (yOf c)))
    ∗ (((c : Thread nD τ).loc cc0_scratch6) ↦{fullShare} (accN m (1 - yOf c)))
    ∗ (((c : Thread nD τ).loc cc0_scratch7) ↦{fullShare} (accS m (1 - yOf c))))

theorem accFull_bufs (c : Dev nD) : accFull m c ⊢ accBufs c := by
  unfold accFull accBufs
  iintro ⟨H4, H5, H6, H7⟩
  isplitl [H4]; · iexists _; iexact H4
  isplitl [H5]; · iexists _; iexact H5
  isplitl [H6]; · iexists _; iexact H6
  iexists _; iexact H7

theorem landN0_at (p : Dev nD) {f : (cc0_scratch4 : Ref sig .tc).ty.Contents (Elt F)}
    (h : (halfN nM p).view.read (Elt F) f = (halfN nM p).view.read (Elt F) (accN m (yOf p))) (i : S16x16x64.Idx) (hi : i ∈ (halfRectN p).set) :
    f i = accN m (yOf p) i :=
  agree_of_read (v := (halfN nM p).view) (g := accN m (yOf p)) h i ((Finset.ext_iff.1 (halfN_set p) i).2 hi)
theorem landS0_at (p : Dev nD) {f : (cc0_scratch5 : Ref sig .tc).ty.Contents (Elt F)}
    (h : (halfS sM p).view.read (Elt F) f = (halfS sM p).view.read (Elt F) (accS m (yOf p))) (i : S2x16x16.Idx) (hi : i ∈ (halfRectS p).set) :
    f i = accS m (yOf p) i :=
  agree_of_read (v := (halfS sM p).view) (g := accS m (yOf p)) h i ((Finset.ext_iff.1 (halfS_set p) i).2 hi)
theorem landN1_at (p : Dev nD) {f : (cc0_scratch6 : Ref sig .tc).ty.Contents (Elt F)}
    (h : (halfN rnM p).view.read (Elt F) f = (halfN nM p).view.read (Elt F) (accN m (yOf p))) (i : S16x16x64.Idx) (hi : i ∈ (halfRectN p).set) :
    f i = accN m (yOf p) i :=
  agree_of_read (v := (halfN rnM p).view) (g := accN m (yOf p)) h i ((Finset.ext_iff.1 (halfRN_set p) i).2 hi)
theorem landS1_at (p : Dev nD) {f : (cc0_scratch7 : Ref sig .tc).ty.Contents (Elt F)}
    (h : (halfS rsM p).view.read (Elt F) f = (halfS sM p).view.read (Elt F) (accS m (yOf p))) (i : S2x16x16.Idx) (hi : i ∈ (halfRectS p).set) :
    f i = accS m (yOf p) i :=
  agree_of_read (v := (halfS rsM p).view) (g := accS m (yOf p)) h i ((Finset.ext_iff.1 (halfRS_set p) i).2 hi)

/-- A landed half is that half of the sender's accumulator. -/
theorem landN0 (c : Dev nD) : landN m 0 (peer 0 c) c ⊢ (((c : Thread nD τ).loc cc0_scratch4) ↦[(halfRectN (peer 0 c)).set]{fullShare} (accN m (yOf c)) : sProp 𝕄) := by
  unfold landN
  iintro ⟨%f, %h, H⟩
  ihave H := ((Entails.of_eq (nPts_own (peer 0 c) c fullShare f)).trans (Entails.of_eq (pointsTo_congr (g := accN m (yOf c)) fun i hi => (landN0_at m (peer 0 c) h i hi).trans (by rw [yOf_peer0])))) $$ H
  iexact H
theorem landS0 (c : Dev nD) : landS m 0 (peer 0 c) c ⊢ (((c : Thread nD τ).loc cc0_scratch5) ↦[(halfRectS (peer 0 c)).set]{fullShare} (accS m (yOf c)) : sProp 𝕄) := by
  unfold landS
  iintro ⟨%f, %h, H⟩
  ihave H := ((Entails.of_eq (sPts_own (peer 0 c) c fullShare f)).trans (Entails.of_eq (pointsTo_congr (g := accS m (yOf c)) fun i hi => (landS0_at m (peer 0 c) h i hi).trans (by rw [yOf_peer0])))) $$ H
  iexact H
theorem landN1 (c : Dev nD) : landN m 1 (peer 1 c) c ⊢ (((c : Thread nD τ).loc cc0_scratch6) ↦[(halfRectN (peer 1 c)).set]{fullShare} (accN m (1 - yOf c)) : sProp 𝕄) := by
  unfold landN
  iintro ⟨%f, %h, H⟩
  ihave H := ((Entails.of_eq (nPts_rem (peer 1 c) c fullShare f)).trans (Entails.of_eq (pointsTo_congr (g := accN m (1 - yOf c)) fun i hi => (landN1_at m (peer 1 c) h i hi).trans (by rw [yOf_peer1])))) $$ H
  iexact H
theorem landS1 (c : Dev nD) : landS m 1 (peer 1 c) c ⊢ (((c : Thread nD τ).loc cc0_scratch7) ↦[(halfRectS (peer 1 c)).set]{fullShare} (accS m (1 - yOf c)) : sProp 𝕄) := by
  unfold landS
  iintro ⟨%f, %h, H⟩
  ihave H := ((Entails.of_eq (sPts_rem (peer 1 c) c fullShare f)).trans (Entails.of_eq (pointsTo_congr (g := accS m (1 - yOf c)) fun i hi => (landS1_at m (peer 1 c) h i hi).trans (by rw [yOf_peer1])))) $$ H
  iexact H
theorem landN2 (c : Dev nD) : landN m 2 (peer 2 c) c ⊢ (((c : Thread nD τ).loc cc0_scratch6) ↦[(halfRectN (peer 2 c)).set]{fullShare} (accN m (1 - yOf c)) : sProp 𝕄) := by
  unfold landN
  iintro ⟨%f, %h, H⟩
  ihave H := ((Entails.of_eq (nPts_rem (peer 2 c) c fullShare f)).trans (Entails.of_eq (pointsTo_congr (g := accN m (1 - yOf c)) fun i hi => (landN1_at m (peer 2 c) h i hi).trans (by rw [yOf_peer2])))) $$ H
  iexact H
theorem landS2 (c : Dev nD) : landS m 2 (peer 2 c) c ⊢ (((c : Thread nD τ).loc cc0_scratch7) ↦[(halfRectS (peer 2 c)).set]{fullShare} (accS m (1 - yOf c)) : sProp 𝕄) := by
  unfold landS
  iintro ⟨%f, %h, H⟩
  ihave H := ((Entails.of_eq (sPts_rem (peer 2 c) c fullShare f)).trans (Entails.of_eq (pointsTo_congr (g := accS m (1 - yOf c)) fun i hi => (landS1_at m (peer 2 c) h i hi).trans (by rw [yOf_peer2])))) $$ H
  iexact H

/-- The device's own half and the three landed halves are the four accumulators, exchanged. -/
theorem accFull_join (c : Dev nD) :
    iprop(srcN m c fullShare ∗ srcS m c fullShare ∗ (landN m 0 (peer 0 c) c ∗ landS m 0 (peer 0 c) c)
        ∗ (landN m 1 (peer 1 c) c ∗ landS m 1 (peer 1 c) c) ∗ (landN m 2 (peer 2 c) c ∗ landS m 2 (peer 2 c) c))
      ⊢ accFull m c := by
  unfold accFull
  iintro ⟨H4, H5, ⟨H4', H5'⟩, ⟨H6, H7⟩, ⟨H6', H7'⟩⟩
  isplitl [H4 H4']
  · iapply ((BI.Laws.sep_mono (Entails.of_eq (nPts_own c c fullShare (accN m (yOf c)))) (landN0 m c)).trans (pts_halves (own_halfN c) fullShare (accN m (yOf c))).2)
    isplitl [H4] <;> iassumption
  isplitl [H5 H5']
  · iapply ((BI.Laws.sep_mono (Entails.of_eq (sPts_own c c fullShare (accS m (yOf c)))) (landS0 m c)).trans (pts_halves (own_halfS c) fullShare (accS m (yOf c))).2)
    isplitl [H5] <;> iassumption
  isplitl [H6 H6']
  · iapply ((BI.Laws.sep_mono (landN1 m c) (landN2 m c)).trans (pts_halves (rem_halfN c) fullShare (accN m (1 - yOf c))).2)
    isplitl [H6] <;> iassumption
  iapply ((BI.Laws.sep_mono (landS1 m c) (landS2 m c)).trans (pts_halves (rem_halfS c) fullShare (accS m (1 - yOf c))).2)
  isplitl [H7] <;> iassumption

/-- The own half in the three shares the copies read. -/
theorem srcN_shares (c : Dev nD) : srcN m c fullShare ⊣⊢ iprop(srcN m c (qOf 0) ∗ srcN m c (qOf 1) ∗ srcN m c (qOf 2)) := by
  unfold srcN nPts
  have h1 := pointsTo_share (Ix := Unit) (Name := ℕ) (U := UU) (Lvl := ℕ) (ℓ := (halfN nM c).view.loc (c : Thread nD τ)) (I := (halfN nM c).view.set) (f := accN m (yOf c)) (PosShare.mem_left_op_right fullShare)
  have h2 := pointsTo_share (Ix := Unit) (Name := ℕ) (U := UU) (Lvl := ℕ) (ℓ := (halfN nM c).view.loc (c : Thread nD τ)) (I := (halfN nM c).view.set) (f := accN m (yOf c)) (PosShare.mem_left_op_right fullShare.right)
  exact ⟨h1.1.trans (sep_mono_right h2.1), (sep_mono_right h2.2).trans h1.2⟩
theorem srcS_shares (c : Dev nD) : srcS m c fullShare ⊣⊢ iprop(srcS m c (qOf 0) ∗ srcS m c (qOf 1) ∗ srcS m c (qOf 2)) := by
  unfold srcS sPts
  have h1 := pointsTo_share (Ix := Unit) (Name := ℕ) (U := UU) (Lvl := ℕ) (ℓ := (halfS sM c).view.loc (c : Thread nD τ)) (I := (halfS sM c).view.set) (f := accS m (yOf c)) (PosShare.mem_left_op_right fullShare)
  have h2 := pointsTo_share (Ix := Unit) (Name := ℕ) (U := UU) (Lvl := ℕ) (ℓ := (halfS sM c).view.loc (c : Thread nD τ)) (I := (halfS sM c).view.set) (f := accS m (yOf c)) (PosShare.mem_left_op_right fullShare.right)
  exact ⟨h1.1.trans (sep_mono_right h2.1), (sep_mono_right h2.2).trans h1.2⟩

/-- The own half once every row is done. -/
theorem doneN_at (c : Dev nD) {f : (cc0_scratch4 : Ref sig .tc).ty.Contents (Elt F)} (h : DoneN m c Finset.univ f) (i : S16x16x64.Idx) (hi : i ∈ (halfRectN c).set) :
    f i = accN m (yOf c) i := by
  have hx := (mem_halfN c i).1 hi
  have e : (i 0).val = 8 * (xOf c).val + ((i 0).val - 8 * (xOf c).val) := by omega
  exact h i ⟨(i 0).val - 8 * (xOf c).val, by omega⟩ (Finset.mem_univ _) e
theorem doneN_pts (c : Dev nD) {f : (cc0_scratch4 : Ref sig .tc).ty.Contents (Elt F)} (h : DoneN m c Finset.univ f) :
    (nPts nM c c fullShare f : sProp 𝕄) = srcN m c fullShare := by
  have e : ((((c : Thread nD τ).loc cc0_scratch4) ↦[(halfRectN c).set]{fullShare} f) : sProp 𝕄)
      = (((c : Thread nD τ).loc cc0_scratch4) ↦[(halfRectN c).set]{fullShare} (accN m (yOf c))) := pointsTo_congr (doneN_at m c h)
  exact (nPts_own c c fullShare f).trans (e.trans (nPts_own c c fullShare (accN m (yOf c))).symm)
theorem doneN_src (c : Dev nD) : iprop(∃ f, ⌜DoneN m c Finset.univ f⌝ ∗ nPts nM c c fullShare f) ⊢ srcN m c fullShare := by
  iintro ⟨%f, %h, H⟩
  iapply (Entails.of_eq (doneN_pts m c h))
  iexact H
theorem doneS_at (c : Dev nD) {f : (cc0_scratch5 : Ref sig .tc).ty.Contents (Elt F)} (h : DoneS m c Finset.univ f) (i : S2x16x16.Idx) (hi : i ∈ (halfRectS c).set) :
    f i = accS m (yOf c) i := by
  have hx := (mem_halfS c i).1 hi
  have e : (i 1).val = 8 * (xOf c).val + ((i 1).val - 8 * (xOf c).val) := by omega
  exact h i ⟨(i 1).val - 8 * (xOf c).val, by omega⟩ (Finset.mem_univ _) e
theorem doneS_pts (c : Dev nD) {f : (cc0_scratch5 : Ref sig .tc).ty.Contents (Elt F)} (h : DoneS m c Finset.univ f) :
    (sPts sM c c fullShare f : sProp 𝕄) = srcS m c fullShare := by
  have e : ((((c : Thread nD τ).loc cc0_scratch5) ↦[(halfRectS c).set]{fullShare} f) : sProp 𝕄)
      = (((c : Thread nD τ).loc cc0_scratch5) ↦[(halfRectS c).set]{fullShare} (accS m (yOf c))) := pointsTo_congr (doneS_at m c h)
  exact (sPts_own c c fullShare f).trans (e.trans (sPts_own c c fullShare (accS m (yOf c))).symm)
theorem doneS_src (c : Dev nD) : iprop(∃ f, ⌜DoneS m c Finset.univ f⌝ ∗ sPts sM c c fullShare f) ⊢ srcS m c fullShare := by
  iintro ⟨%f, %h, H⟩
  iapply (Entails.of_eq (doneS_pts m c h))
  iexact H

/-! ## The slots -/

theorem slot_disjoint (s t : Fin 4) (h : s ≠ t) : Disjoint (slotRect s).set (slotRect t).set :=
  Finset.disjoint_left.2 fun i hi hj => h (Fin.ext (((mem_slot s i).1 hi).symm.trans ((mem_slot t i).1 hj)))
theorem slot_cover : Finset.univ.biUnion (fun s : Fin 4 => (slotRect s).set) = Finset.univ :=
  Finset.eq_univ_of_forall fun i => Finset.mem_biUnion.2 ⟨⟨(i 0).val, (i 0).isLt⟩, Finset.mem_univ _, (mem_slot _ i).2 rfl⟩

/-- A staging buffer is its four slots. -/
theorem slots_split {ℓ : Loc nD τ sig} (K : Fin 4 → Finset (Idx ℓ)) (hd : ∀ s t, s ≠ t → Disjoint (K s) (K t))
    (hc : Finset.univ.biUnion K = Finset.univ) :
    iprop(∃ f, ℓ ↦{fullShare} f) ⊢ (bigSep Finset.univ fun s => iprop(∃ f, ℓ ↦[K s]{fullShare} f) : sProp 𝕄) := by
  have hs : ∀ f : Buf (Elt F) ℓ, (ℓ ↦{fullShare} f : sProp 𝕄) = bigSep Finset.univ fun s => ℓ ↦[K s]{fullShare} f := fun f => by
    rw [← pointsTo_biUnion Finset.univ K fun s _ t _ => hd s t, hc]
  have hm : ∀ f : Buf (Elt F) ℓ, (bigSep Finset.univ fun s => ℓ ↦[K s]{fullShare} f : sProp 𝕄) ⊢ bigSep Finset.univ fun s => iprop(∃ f, ℓ ↦[K s]{fullShare} f) := fun f =>
    bigSep_mono fun s _ => by
      show (ℓ ↦[K s]{fullShare} f : sProp 𝕄) ⊢ iprop(∃ f, ℓ ↦[K s]{fullShare} f)
      iintro H; iexists f; iexact H
  iintro ⟨%f, H⟩
  ihave H := ((Entails.of_eq (hs f)).trans (hm f)) $$ H
  iexact H
theorem slots_join {ℓ : Loc nD τ sig} (K : Fin 4 → Finset (Idx ℓ)) (hd : ∀ s t, s ≠ t → Disjoint (K s) (K t))
    (hc : Finset.univ.biUnion K = Finset.univ) :
    (bigSep Finset.univ fun s => iprop(∃ f, ℓ ↦[K s]{fullShare} f) : sProp 𝕄) ⊢ iprop(∃ f, ℓ ↦{fullShare} f) := by
  rw [bigSep_univ_eq_bigSepL [0, 1, 2, 3] (by decide) (by decide)]
  show iprop((∃ f, ℓ ↦[K 0]{fullShare} f) ∗ (∃ f, ℓ ↦[K 1]{fullShare} f) ∗ (∃ f, ℓ ↦[K 2]{fullShare} f) ∗ ∃ f, ℓ ↦[K 3]{fullShare} f) ⊢ (_ : sProp 𝕄)
  iintro ⟨⟨%f0, H0⟩, ⟨%f1, H1⟩, ⟨%f2, H2⟩, ⟨%f3, H3⟩⟩
  ihave H := (show iprop((ℓ ↦[K 0]{fullShare} f0) ∗ (ℓ ↦[K 1]{fullShare} f1) ∗ (ℓ ↦[K 2]{fullShare} f2) ∗ ℓ ↦[K 3]{fullShare} f3) ⊢ (iprop(∃ g, ℓ ↦{fullShare} g) : sProp 𝕄) from by
    have hb : (bigSep Finset.univ fun t => ℓ ↦[K t]{fullShare} ((![f0, f1, f2, f3] : Fin 4 → Buf (Elt F) ℓ) t) : sProp 𝕄)
        = iprop((ℓ ↦[K 0]{fullShare} f0) ∗ (ℓ ↦[K 1]{fullShare} f1) ∗ (ℓ ↦[K 2]{fullShare} f2) ∗ ℓ ↦[K 3]{fullShare} f3) :=
      bigSep_univ_eq_bigSepL [0, 1, 2, 3] (by decide) (by decide) _
    rw [← hb]
    refine (pointsTo_biUnion_join Finset.univ K _ f0 fun s _ t _ => hd s t).trans ?_
    rw [hc]
    iintro ⟨%g, %hg, H⟩
    iexists g; iexact H) $$ [H0 H1 H2 H3]
  · isplitl [H0]; · iexact H0
    isplitl [H1]; · iexact H1
    isplitl [H2] <;> iassumption
  iexact H

theorem kSlotPts_eq (c : Dev nD) (s : Fin 4) (f : Buf (Elt F) ((c : Thread nD τ).loc cc0_scratch0)) :
    (kSlotPts c s f : sProp 𝕄) = (((c : Thread nD τ).loc cc0_scratch0) ↦[(slotRect s).set]{fullShare} f) :=
  congrArg (fun A : Finset (Idx ((c : Thread nD τ).loc cc0_scratch0)) => (((c : Thread nD τ).loc cc0_scratch0) ↦[A]{fullShare} f : sProp 𝕄)) (kSlot_set s)
theorem kBuf_split (c : Dev nD) : iprop(∃ f : Buf (Elt F) ((c : Thread nD τ).loc cc0_scratch0), ((c : Thread nD τ).loc cc0_scratch0) ↦{fullShare} f)
    ⊢ (bigSep Finset.univ fun s => iprop(∃ f, kSlotPts c s f) : sProp 𝕄) := by
  simp only [kSlotPts_eq]
  exact slots_split (ℓ := (c : Thread nD τ).loc cc0_scratch0) (fun s => (slotRect s).set) slot_disjoint slot_cover
theorem kBuf_join (c : Dev nD) : (bigSep Finset.univ fun s => iprop(∃ f, kSlotPts c s f) : sProp 𝕄)
    ⊢ iprop(∃ f : Buf (Elt F) ((c : Thread nD τ).loc cc0_scratch0), ((c : Thread nD τ).loc cc0_scratch0) ↦{fullShare} f) := by
  simp only [kSlotPts_eq]
  exact slots_join (ℓ := (c : Thread nD τ).loc cc0_scratch0) (fun s => (slotRect s).set) slot_disjoint slot_cover
theorem vSlotPts_eq (c : Dev nD) (s : Fin 4) (f : Buf (Elt F) ((c : Thread nD τ).loc cc0_scratch1)) :
    (vSlotPts c s f : sProp 𝕄) = (((c : Thread nD τ).loc cc0_scratch1) ↦[(slotRect s).set]{fullShare} f) :=
  congrArg (fun A : Finset (Idx ((c : Thread nD τ).loc cc0_scratch1)) => (((c : Thread nD τ).loc cc0_scratch1) ↦[A]{fullShare} f : sProp 𝕄)) (vSlot_set s)
theorem vBuf_split (c : Dev nD) : iprop(∃ f : Buf (Elt F) ((c : Thread nD τ).loc cc0_scratch1), ((c : Thread nD τ).loc cc0_scratch1) ↦{fullShare} f)
    ⊢ (bigSep Finset.univ fun s => iprop(∃ f, vSlotPts c s f) : sProp 𝕄) := by
  simp only [vSlotPts_eq]
  exact slots_split (ℓ := (c : Thread nD τ).loc cc0_scratch1) (fun s => (slotRect s).set) slot_disjoint slot_cover
theorem vBuf_join (c : Dev nD) : (bigSep Finset.univ fun s => iprop(∃ f, vSlotPts c s f) : sProp 𝕄)
    ⊢ iprop(∃ f : Buf (Elt F) ((c : Thread nD τ).loc cc0_scratch1), ((c : Thread nD τ).loc cc0_scratch1) ↦{fullShare} f) := by
  simp only [vSlotPts_eq]
  exact slots_join (ℓ := (c : Thread nD τ).loc cc0_scratch1) (fun s => (slotRect s).set) slot_disjoint slot_cover

/-- A device's staging buffers and its own copies' semaphores. -/
def slotBufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun s => semVal ((c : Thread nD τ), .dma (kSem s)) 0)
    ∗ (bigSep Finset.univ fun s => semVal ((c : Thread nD τ), .dma (vSem s)) 0))

/-- They are the four slots, free. -/
theorem slotBufs_slots (c : Dev nD) : (slotBufs c : sProp 𝕄) ⊢ bigSep Finset.univ fun k => slotRes m c k none := by
  unfold slotBufs slotRes
  rw [bigSep_sep', bigSep_sep', bigSep_sep']
  exact BI.Laws.sep_mono (kBuf_split c) (BI.Laws.sep_mono (vBuf_split c) BIBase.Entails.refl)
theorem slots_slotBufs (c : Dev nD) : (bigSep Finset.univ fun k => slotRes m c k none) ⊢ (slotBufs c : sProp 𝕄) := by
  unfold slotBufs slotRes
  rw [bigSep_sep', bigSep_sep', bigSep_sep']
  exact BI.Laws.sep_mono (kBuf_join c) (BI.Laws.sep_mono (vBuf_join c) BIBase.Entails.refl)

/-! ## The rows -/

theorem kRow_set (c : Dev nD) (j : Fin 8) : (kRow c j).view.set = (rowRect c j).set :=
  (View.set_reshape _ _).trans (View.set_slice_whole main_v1 (rowRect c j))
theorem vRow_set (c : Dev nD) (j : Fin 8) : (vRow c j).view.set = (rowRect c j).set :=
  (View.set_reshape _ _).trans (View.set_slice_whole main_v2 (rowRect c j))
theorem row_disjoint (c : Dev nD) (s t : Fin 8) (h : s ≠ t) : Disjoint (rowRect c s).set (rowRect c t).set :=
  Finset.disjoint_left.2 fun i hi hj => h (Fin.ext (by have := (mem_row c s i).1 hi; have := (mem_row c t i).1 hj; omega))

/-- A device's rows out of a whole buffer. -/
theorem rows_split {ℓ : Loc nD τ sig} (K : Fin 8 → Finset (Idx ℓ)) (hd : ∀ s t, s ≠ t → Disjoint (K s) (K t)) (f : Buf (Elt F) ℓ) :
    (ℓ ↦{fullShare} f : sProp 𝕄) ⊢ bigSep Finset.univ fun s => ℓ ↦[K s]{fullShare} f := by
  rw [← pointsTo_biUnion Finset.univ K fun s _ t _ => hd s t]
  refine (pointsTo_split_subset (Finset.subset_univ (Finset.univ.biUnion K))).1.trans ?_
  iintro ⟨H, -⟩
  iexact H

theorem kRowPts_eq (c : Dev nD) (j : Fin 8) : (kRowPts m c j : sProp 𝕄) = (((c : Thread nD τ).loc main_v1) ↦[(rowRect c j).set]{fullShare} (V m c main_v1)) :=
  congrArg (fun A : Finset (Idx ((c : Thread nD τ).loc main_v1)) => (((c : Thread nD τ).loc main_v1) ↦[A]{fullShare} (V m c main_v1) : sProp 𝕄)) (kRow_set c j)
theorem vRowPts_eq (c : Dev nD) (j : Fin 8) : (vRowPts m c j : sProp 𝕄) = (((c : Thread nD τ).loc main_v2) ↦[(rowRect c j).set]{fullShare} (V m c main_v2)) :=
  congrArg (fun A : Finset (Idx ((c : Thread nD τ).loc main_v2)) => (((c : Thread nD τ).loc main_v2) ↦[A]{fullShare} (V m c main_v2) : sProp 𝕄)) (vRow_set c j)

theorem rows_of_bufs (c : Dev nD) :
    iprop((((c : Thread nD τ).loc main_v1) ↦{fullShare} (V m c main_v1)) ∗ (((c : Thread nD τ).loc main_v2) ↦{fullShare} (V m c main_v2)))
      ⊢ (bigSep Finset.univ fun j => iprop(kRowPts m c j ∗ vRowPts m c j) : sProp 𝕄) := by
  simp only [kRowPts_eq, vRowPts_eq]
  rw [bigSep_sep']
  exact BI.Laws.sep_mono (rows_split (ℓ := (c : Thread nD τ).loc main_v1) (fun j => (rowRect c j).set) (row_disjoint c) _)
    (rows_split (ℓ := (c : Thread nD τ).loc main_v2) (fun j => (rowRect c j).set) (row_disjoint c) _)

end Cert.KernelIdeal

end
-- ==== Proof.Body.lean ====
/-
  The kernel's body on one device, from its share of the launch to its result.
-/
module

public import proofs.«01_k».proof.Proof.Buffers
public import proofs.«01_k».proof.Proof.Gen.KernelIdeal.Points

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (κ : GSem nD τ sig → ℕ)

/-! ## The barrier -/

/-- What device `c` needs to signal its `j`-th other device, besides the landing halves it hands over. -/
def sigToks (c : Dev nD) (j : Fin 3) : sProp 𝕄 :=
  iprop(dutyTok EB (kcell (peer j c, none)) 0 j ∗ reached EB (kcell (peer j c, none)) 0
    ∗ reached EB (kcell (c, some (true, j, false))) 0 ∗ reached EB (kcell (c, some (true, j, true))) 0)

theorem pay_bar (c : Dev nD) (j : Fin 3) : pay m (peer j c) none j = barPay j c (peer j c) := by
  show barPay j (peer j (peer j c)) (peer j c) = _
  rw [peer_peer]

/-- Signalling the `j`-th other device's barrier. -/
theorem wp_sig (c n : Dev nD) (j : Fin 3) (hn : n = peer j c) (rest : List (Dev nD × Cx)) (k : PUnit → P F) (Q : PUnit → sProp 𝕄) :
    iprop(invs m κ ∗ sigToks c j ∗ landing c j ∗ ∃ W, owes (c : Thread nD τ) (oweL ((peer j c, none) :: rest)) W)
      ⊢ iprop(((∃ W, owes (c : Thread nD τ) (oweL rest) W)
            -∗ wp frame (wpE (defs₀ (F := F)) 𝒱₀ (c : Thread nD τ) none) Set.univ (k ⟨⟩) Q)
          -∗ wp frame (wpE (defs₀ (F := F)) 𝒱₀ (c : Thread nD τ) none) Set.univ (Prog.bind (semSignalWord n barSem 1#32) k) Q) := by
  subst hn
  simp only [semSignalWord, Prog.bind_op, Prog.bind_ret]
  unfold sigToks landing
  iintro ⟨#HI, ⟨Ht, Hr, Hr1, Hr2⟩, ⟨Hn, Hs⟩, ⟨%W, HO⟩⟩ HK
  iapply (Rounds.wp_signal 𝒱₀ EB (exch m) (c : Thread nD τ) none (dst := (peer j c : Thread nD τ)) (κ := κ (kcell (peer j c, none)))
      (d := j) (by rw [duties_bar m (peer j c)]; exact Finset.mem_univ _) ((amount_eq m (peer j c) none j).trans (by decide)) () (oweL rest) rfl)
    $$ [Ht Hr Hr1 Hr2 Hn Hs HO]
  · isplitr; · iapply (inv_at m κ (peer j c) none); iexact HI
    isplitl [HO]; · iexact HO
    isplitl [Ht]; · iexact Ht
    isplitr [Hr]
    · iapply ((Entails.of_eq (pay_bar m c j).symm).trans (Entails.of_eq (payload_eq m (peer j c) none j).symm))
      unfold barPay
      isplitl [Hn]; · iexact Hn
      isplitl [Hs]; · iexact Hs
      isplitl [Hr1] <;> iassumption
    iexact Hr
  iintro HO
  iapply HK
  iexists W; iexact HO

/-- Waiting for the three other devices' signals: where the copies to each may land. -/
theorem wp_barWait (c : Dev nD) (k : PUnit → P F) (Q : PUnit → sProp 𝕄) :
    iprop(invs m κ ∗ levAts L lv ∗ cred (tallyAt (kcell (c, none)) () 3) ∗ atPos EB (kcell (c, none)) 0 ∅ 0 ∗ ∃ W, owes (c : Thread nD τ) (oweL (dues₁ c)) W)
      ⊢ iprop(((semVal (kcell (c, none)) 0 ∗ (barPay 0 (peer 0 c) c ∗ barPay 1 (peer 1 c) c ∗ barPay 2 (peer 2 c) c) ∗ ∃ W, owes (c : Thread nD τ) (oweL (dues₁ c)) W)
            -∗ wp frame (wpE (defs₀ (F := F)) 𝒱₀ (c : Thread nD τ) none) Set.univ (k ⟨⟩) Q)
          -∗ wp frame (wpE (defs₀ (F := F)) 𝒱₀ (c : Thread nD τ) none) Set.univ (Prog.bind (semWaitWord barSem 3#32) k) Q) := by
  simp only [semWaitWord, Prog.bind_op, Prog.bind_ret]
  iintro ⟨#HI, #Hlev, Hc, Ha, ⟨%W, HO⟩⟩ HK
  iapply (Rounds.wp_wait_rest_token 𝒱₀ EB (exch m) (c : Thread nD τ) none (κ := κ (kcell (c, none)))
      (wpE_semWait_eq 𝒱₀ (c : Thread nD τ) none Set.univ) (Set.mem_univ _) () (O := oweL (dues₁ c)) (W := W) (R := 0) (m := 0) (T := ∅)
      (by rw [Nat.zero_add]; exact (expect_bar m c).symm)) $$ [Hc HO Ha]
  · isplitr; · iapply (inv_at m κ c none); iexact HI
    isplitl [Hc]; · iexact Hc
    isplitl [HO]; · iexact HO
    isplitr; · iapply (mayWait_bar c); iexact Hlev
    iexact Ha
  iintro ⟨HO, Ha, -, Hp⟩
  ihave Hp := ((Entails.of_eq (rest_bar m c)).trans (Entails.of_eq (bigSep_fin3 _))) $$ Hp
  imod (Rounds.cell_close EB (exch m) (Set.mem_univ (κ (kcell (c, none)))) (fun h => h) (R := 0 + 1) (duties_later m (kcell (c, none)))) $$ [Ha] with Hz
  · isplitr; · iapply (inv_at m κ c none); iexact HI
    iexact Ha
  iapply HK
  isplitl [Hz]; · iexact Hz
  isplitl [Hp]; · iexact Hp
  iexists _; iexact HO

/-! ## The merge -/

/-- The result's staging buffer. -/
def oPts (c : Dev nD) (f : Buf (Elt F) ((c : Thread nD τ).loc cc0_stg1_0)) : sProp 𝕄 := ((c : Thread nD τ).loc cc0_stg1_0) ↦{fullShare} f

theorem write_out (f w : (cc0_stg1_0 : Ref sig .tc).ty.Contents (Elt F)) : (oM.access allO : View sig .tc _ _ _).write (Elt F) f w Finset.univ = w :=
  Memref.write_access_unit_zero_univ (Elt F) cc0_stg1_0 (by funext a; fin_cases a <;> rfl) _ f w

/-- The merge leaves the result. -/
theorem wp_mergeStep (c : Dev nD) (k : P F) (Q : PUnit → sProp 𝕄) :
    iprop(accFull m c ∗ ∃ g, oPts c g)
      ⊢ iprop(((accFull m c ∗ oPts c (outAt m c))
            -∗ wp frame (wpE (defs₀ (F := F)) 𝒱₀ (c : Thread nD τ) none) Set.univ k Q)
          -∗ wp frame (wpE (defs₀ (F := F)) 𝒱₀ (c : Thread nD τ) none) Set.univ (mergeStep k) Q) := by
  unfold mergeStep accFull oPts
  iintro ⟨⟨Hn, Hs, Hrn, Hrs⟩, ⟨%g, Ho⟩⟩ HK
  iapply (wp_load 𝒱₀ (c : Thread nD τ) none Set.univ (m := sM) (Finset.subset_univ _)) $$ Hs; iintro Hs
  iapply (wp_load 𝒱₀ (c : Thread nD τ) none Set.univ (m := sM) (Finset.subset_univ _)) $$ Hs; iintro Hs
  iapply (wp_load 𝒱₀ (c : Thread nD τ) none Set.univ (m := rsM) (Finset.subset_univ _)) $$ Hrs; iintro Hrs
  iapply (wp_load 𝒱₀ (c : Thread nD τ) none Set.univ (m := rsM) (Finset.subset_univ _)) $$ Hrs; iintro Hrs
  iapply (wp_load 𝒱₀ (c : Thread nD τ) none Set.univ (m := nM) (Finset.subset_univ _)) $$ Hn; iintro Hn
  iapply (wp_load 𝒱₀ (c : Thread nD τ) none Set.univ (m := rnM) (Finset.subset_univ _)) $$ Hrn; iintro Hrn
  iapply (wp_load 𝒱₀ (c : Thread nD τ) none Set.univ (m := oM) (Finset.subset_univ _)) $$ Ho; iintro Ho
  iapply (wp_store 𝒱₀ (c : Thread nD τ) none Set.univ (m := oM) (r := allO) (Mk := Finset.univ) (Finset.subset_univ _)) $$ Ho; iintro Ho
  iapply HK
  isplitr [Ho]
  · isplitl [Hn]; · iexact Hn
    isplitl [Hs]; · iexact Hs
    isplitl [Hrn] <;> iassumption
  rw [write_out]
  iexact Ho

/-! ## The body -/

/-- Device `c`'s part in the exchange at the start. -/
def startToks (c : Dev nD) : sProp 𝕄 :=
  iprop((atPos EB (kcell (c, none)) 0 ∅ 0 ∗ cred (tallyAt (kcell (c, none)) () 3)) ∗ (sigToks c 0 ∗ sigToks c 1 ∗ sigToks c 2)
    ∗ (sendToks c 0 ∗ sendToks c 1 ∗ sendToks c 2) ∗ (waitNeeds c 0 ∗ waitNeeds c 1 ∗ waitNeeds c 2))

/-- What a device holds at the body's start, -/
def Φ₀ (c : Dev nD) : sProp 𝕄 :=
  iprop((∃ κ, invs m κ) ∗ levAts L lv ∗ startToks c ∗ (bigSep Finset.univ fun j => iprop(kRowPts m c j ∗ vRowPts m c j)) ∗ slotBufs c ∗ accBufs c)
/-- and at its end: its buffers, and its semaphores at zero. -/
def Φ₁ (c : Dev nD) : sProp 𝕄 :=
  iprop(slotBufs c ∗ accBufs c ∗ (zeros c 0 ∗ zeros c 1 ∗ zeros c 2) ∗ semVal (kcell (c, none)) 0)

/-- The body after its barrier. -/
theorem wp_afterBarrier (c : Dev nD) (Q : PUnit → sProp 𝕄) :
    iprop(invs m κ ∗ levAts L lv ∗ (barPay 0 (peer 0 c) c ∗ barPay 1 (peer 1 c) c ∗ barPay 2 (peer 2 c) c)
        ∗ (sendToks c 0 ∗ sendToks c 1 ∗ sendToks c 2) ∗ (waitNeeds c 0 ∗ waitNeeds c 1 ∗ waitNeeds c 2)
        ∗ (bigSep Finset.univ fun j => iprop(kRowPts m c j ∗ vRowPts m c j)) ∗ slotBufs c
        ∗ ((∃ f, nPts nM c c fullShare f) ∗ ∃ f, sPts sM c c fullShare f)
        ∗ qPts m c ∗ (∃ g, oPts c g) ∗ ∃ W, owes (c : Thread nD τ) (oweL (dues₁ c)) W)
      ⊢ iprop(((slotBufs c ∗ accBufs c ∗ (zeros c 0 ∗ zeros c 1 ∗ zeros c 2) ∗ qPts m c ∗ oPts c (outAt m c) ∗ ∃ W, owes (c : Thread nD τ) 0 W) -∗ Q ⟨⟩)
          -∗ wp frame (wpE (defs₀ (F := F)) 𝒱₀ (c : Thread nD τ) none) Set.univ (afterBarrier c) Q) := by
  obtain ⟨s', hex, hslot, hdone⟩ := exec_rowOps
  unfold afterBarrier
  iintro ⟨#HI, #Hlev, ⟨Hb0, Hb1, Hb2⟩, ⟨Ht0, Ht1, Ht2⟩, ⟨Hw0, Hw1, Hw2⟩, Hrows, Hslots, ⟨⟨%fn, Hn⟩, ⟨%fs, Hs⟩⟩, Hq, Hout, HO⟩ HK
  ihave Hslots := (slotBufs_slots m c) $$ Hslots
  iapply (wp_runOps m c _ Q s' rowOps loop₀ hex) $$ [Hrows Hslots Hn Hs Hq HO]
  · isplitr; · iexact Hlev
    unfold LoopInv
    isplitl [Hslots]; · iexact Hslots
    isplitl [Hrows]; · iexact Hrows
    isplitl [Hq]; · iexact Hq
    isplitl [Hn]
    · iexists fn
      isplitr; · ipureintro; exact fun _ _ h => absurd h (Finset.notMem_empty _)
      iexact Hn
    isplitl [Hs]
    · iexists fs
      isplitr; · ipureintro; exact fun _ _ h => absurd h (Finset.notMem_empty _)
      iexact Hs
    iexact HO
  unfold LoopInv
  rw [hslot, hdone]
  iintro ⟨Hslots, -, Hq, Hn, Hs, HO⟩
  ihave Hslots := (slots_slotBufs m c) $$ Hslots
  ihave Hn := ((doneN_src m c).trans (srcN_shares m c).1) $$ Hn
  ihave Hs := ((doneS_src m c).trans (srcS_shares m c).1) $$ Hs
  icases Hn with ⟨Hn0, Hn1, Hn2⟩
  icases Hs with ⟨Hs0, Hs1, Hs2⟩
  iapply (wp_sendStep m κ c 0 (sendDues c 1 ++ (sendDues c 2 ++ []))) $$ [Hn0 Hs0 Hb0 Ht0 HO]
  · isplitr; · iexact HI
    isplitl [Hn0]; · iexact Hn0
    isplitl [Hs0]; · iexact Hs0
    isplitl [Hb0]; · iexact Hb0
    isplitl [Ht0] <;> iassumption
  iintro ⟨Hc0, HO⟩
  iapply (wp_sendStep m κ c 1 (sendDues c 2 ++ [])) $$ [Hn1 Hs1 Hb1 Ht1 HO]
  · isplitr; · iexact HI
    isplitl [Hn1]; · iexact Hn1
    isplitl [Hs1]; · iexact Hs1
    isplitl [Hb1]; · iexact Hb1
    isplitl [Ht1] <;> iassumption
  iintro ⟨Hc1, HO⟩
  iapply (wp_sendStep m κ c 2 []) $$ [Hn2 Hs2 Hb2 Ht2 HO]
  · isplitr; · iexact HI
    isplitl [Hn2]; · iexact Hn2
    isplitl [Hs2]; · iexact Hs2
    isplitl [Hb2]; · iexact Hb2
    isplitl [Ht2] <;> iassumption
  iintro ⟨Hc2, HO⟩
  iapply (wp_waitStep m κ c 0) $$ [Hc0 Hw0 HO]
  · isplitr; · iexact HI
    isplitl [Hc0]; · iexact Hc0
    isplitl [Hw0]; · iexact Hw0
    iexact HO
  iintro ⟨⟨Hn0, Hs0⟩, Hl0, Hz0, HO⟩
  iapply (wp_waitStep m κ c 1) $$ [Hc1 Hw1 HO]
  · isplitr; · iexact HI
    isplitl [Hc1]; · iexact Hc1
    isplitl [Hw1] <;> iassumption
  iintro ⟨⟨Hn1, Hs1⟩, Hl1, Hz1, HO⟩
  iapply (wp_waitStep m κ c 2) $$ [Hc2 Hw2 HO]
  · isplitr; · iexact HI
    isplitl [Hc2]; · iexact Hc2
    isplitl [Hw2] <;> iassumption
  iintro ⟨⟨Hn2, Hs2⟩, Hl2, Hz2, HO⟩
  ihave Hn := (srcN_shares m c).2 $$ [Hn0 Hn1 Hn2]
  · isplitl [Hn0]; · iexact Hn0
    isplitl [Hn1] <;> iassumption
  ihave Hs := (srcS_shares m c).2 $$ [Hs0 Hs1 Hs2]
  · isplitl [Hs0]; · iexact Hs0
    isplitl [Hs1] <;> iassumption
  ihave Hacc := (accFull_join m c) $$ [Hn Hs Hl0 Hl1 Hl2]
  · isplitl [Hn]; · iexact Hn
    isplitl [Hs]; · iexact Hs
    isplitl [Hl0]; · iexact Hl0
    isplitl [Hl1] <;> iassumption
  iapply (wp_mergeStep m c) $$ [Hacc Hout]
  · isplitl [Hacc] <;> iassumption
  iintro ⟨Hacc, Hout⟩
  ihave Hacc := (accFull_bufs m c) $$ Hacc
  rw [wp_ret]; imodintro
  iapply HK
  isplitl [Hslots]; · iexact Hslots
  isplitl [Hacc]; · iexact Hacc
  isplitl [Hz0 Hz1 Hz2]
  · isplitl [Hz0]; · iexact Hz0
    isplitl [Hz1] <;> iassumption
  isplitl [Hq]; · iexact Hq
  isplitl [Hout] <;> iassumption

/-- The whole body. -/
theorem wp_body (c : Dev nD) (Q : PUnit → sProp 𝕄) :
    iprop(Φ₀ m c ∗ qPts m c ∗ (∃ g, oPts c g) ∗ ∃ W, owes (c : Thread nD τ) (O₀ c) W)
      ⊢ iprop(((Φ₁ c ∗ qPts m c ∗ oPts c (outAt m c) ∗ ∃ W, owes (c : Thread nD τ) 0 W) -∗ Q ⟨⟩)
          -∗ wp frame (wpE (defs₀ (F := F)) 𝒱₀ (c : Thread nD τ) none) Set.univ stepsBody Q) := by
  unfold stepsBody Φ₀ startToks
  rw [wp_deviceId]
  iintro ⟨⟨⟨%κ, #HI⟩, #Hlev, ⟨⟨Ha, Hc⟩, ⟨Hg0, Hg1, Hg2⟩, Ht, Hw⟩, Hrows, Hslots, Hacc⟩, Hq, Hout, HO⟩ HK
  ihave Hacc := (accBufs_split c) $$ Hacc
  icases Hacc with ⟨Hn, Hs, Hl0, Hl1, Hl2⟩
  iapply (wp_sig m κ c _ 0 (dev1_eq c) ((peer 1 c, none) :: (peer 2 c, none) :: dues₁ c)) $$ [Hg0 Hl0 HO]
  · isplitr; · iexact HI
    isplitl [Hg0]; · iexact Hg0
    isplitl [Hl0]; · iexact Hl0
    iexact HO
  iintro HO
  iapply (wp_sig m κ c _ 1 (dev2_eq c) ((peer 2 c, none) :: dues₁ c)) $$ [Hg1 Hl1 HO]
  · isplitr; · iexact HI
    isplitl [Hg1]; · iexact Hg1
    isplitl [Hl1] <;> iassumption
  iintro HO
  iapply (wp_sig m κ c _ 2 (dev3_eq c) (dues₁ c)) $$ [Hg2 Hl2 HO]
  · isplitr; · iexact HI
    isplitl [Hg2]; · iexact Hg2
    isplitl [Hl2] <;> iassumption
  iintro HO
  iapply (wp_barWait m κ c) $$ [Hc Ha HO]
  · isplitr; · iexact HI
    isplitr; · iexact Hlev
    isplitl [Hc]; · iexact Hc
    isplitl [Ha] <;> iassumption
  iintro ⟨Hzb, Hb, HO⟩
  iapply (wp_afterBarrier m κ c) $$ [Hb Ht Hw Hrows Hslots Hn Hs Hq Hout HO]
  · isplitr; · iexact HI
    isplitr; · iexact Hlev
    isplitl [Hb]; · iexact Hb
    isplitl [Ht]; · iexact Ht
    isplitl [Hw]; · iexact Hw
    isplitl [Hrows]; · iexact Hrows
    isplitl [Hslots]; · iexact Hslots
    isplitl [Hn Hs]
    · isplitl [Hn] <;> iassumption
    isplitl [Hq]; · iexact Hq
    isplitl [Hout] <;> iassumption
  iintro ⟨Hslots, Hacc, Hz, Hq, Hout, HO⟩
  iapply HK
  unfold Φ₁
  isplitr [Hq Hout HO]
  · isplitl [Hslots]; · iexact Hslots
    isplitl [Hacc]; · iexact Hacc
    isplitl [Hz] <;> iassumption
  isplitl [Hq]; · iexact Hq
  isplitl [Hout] <;> iassumption

/-! ## The body's obligation -/

/-- The region's proof data: the arrays as the host operations leave them; the queries as staged, the result merged. -/
def dat0 (c : Dev nD) : Pipeline.Dat τ (Elt F) Unit ℕ UU ℕ cfg0 c where
  A w := V m c (cfg0.win w).arr.view.ref
  after w _ := match w with
    | ⟨0, _⟩ => qstg m c
    | ⟨1, _⟩ => outAt m c
  Φ t := match t.val with
    | 0 => Φ₀ m c
    | _ + 1 => Φ₁ c
  q _ := fullShare
  owed t := match t.val with
    | 0 => O₀ c
    | _ + 1 => 0

theorem before_in (c : Dev nD) (d : (cfg0.win 0).block.Idx → Elt F (cfg0.win 0).elt) : (dat0 m c).before 0 t0_0 d = qstg m c := by
  unfold Pipeline.Dat.before; rw [if_pos (by decide)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem qPts_eq (c : Dev nD) : (qPts m c : sProp 𝕄) = (((c : Thread nD τ).loc cc0_stg0_0) ↦{fullShare} (qstg m c)) :=
  congrArg (fun A : Finset (Idx ((c : Thread nD τ).loc cc0_stg0_0)) => (((c : Thread nD τ).loc cc0_stg0_0) ↦[A]{fullShare} (qstg m c) : sProp 𝕄)) (View.set_whole cc0_stg0_0)

set_option maxRecDepth 65536 in
/-- The body meets its obligation at the one grid point. -/
theorem body_obligation (c : Dev nD) : BodyObligation (dat0 (F := F) m c) (defs₀ (F := F)) 𝒱₀ () Set.univ := fun t => by
  obtain rfl := fin_N0 t
  rw [bigSep_W0, bigSep_W0]
  simp only [owns_whole_eq]
  show _ ⊢ wp frame (wpE (defs₀ (F := F)) 𝒱₀ (c : Thread nD τ) none) Set.univ
    (cc0_body (F := F) qM (Memref.isWhole_whole _) kM (Memref.isWhole_whole _) vM (Memref.isWhole_whole _) oM (Memref.isWhole_whole _) kB (Memref.isWhole_whole _) vB (Memref.isWhole_whole _) cc0_scratch2 cc0_scratch3 nM (Memref.isWhole_whole _) sM (Memref.isWhole_whole _) rnM (Memref.isWhole_whole _) rsM (Memref.isWhole_whole _) cc0_scratch8 cc0_scratch9) _
  rw [body_steps, show (dat0 m c).Φ t0_0.castSucc = Φ₀ m c from rfl, show (dat0 m c).Φ t0_0.succ = Φ₁ c from rfl]
  unfold Pipeline.Dat.owesAt Pipeline.owesWithin
  rw [show (dat0 m c).owed t0_0.castSucc = O₀ c from rfl, show (dat0 m c).owed t0_0.succ = 0 from rfl]
  iintro ⟨HΦ, ⟨%W, -, HO⟩, ⟨%d0, %f0, %hf0, H0⟩, ⟨%d1, %f1, %hf1, H1⟩⟩
  rw [before_in] at hf0
  subst hf0
  ihave H0 := (Entails.of_eq (qPts_eq m c).symm) $$ H0
  iapply (wp_body m c) $$ [HΦ HO H0 H1]
  · isplitl [HΦ]; · iexact HΦ
    isplitl [H0]; · iexact H0
    isplitl [H1]; · unfold oPts; iexists f1; iexact H1
    iexists W; iexact HO
  iintro ⟨HΦ, H0, H1, ⟨%W', HO⟩⟩
  ihave H0 := (Entails.of_eq (qPts_eq m c)) $$ H0
  ihave H1 := (Entails.of_eq (show (oPts c (outAt m c) : sProp 𝕄) = (((c : Thread nD τ).loc cc0_stg1_0) ↦{fullShare} (outAt m c)) from rfl)) $$ H1
  isplitl [HΦ]; · iexact HΦ
  isplitl [HO]
  · iexists W'
    isplitr; · ipureintro; exact fun _ _ => Or.inl trivial
    iexact HO
  isplitl [H0]
  · iexists _; isplitr; swap; (· iexact H0); ipureintro; rfl
  iexists _; isplitr; swap; (· iexact H1); ipureintro; rfl

end Cert.KernelIdeal

end
-- ==== Proof.Deal.lean ====
/-
  What each device is given of the exchange at the start: its barrier's position, the rights to pay the other
  devices' semaphores, the credit of what it will receive, and the rights to open its own transfers' semaphores.
-/
module

public import proofs.«01_k».proof.Proof.Body

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The payments, by who makes them -/

/-- A payment a device makes: a signal to another device, or a count on a transfer's semaphore. -/
abbrev Tx : Type := Fin 3 ⊕ Yx

/-- The semaphore it is made to, -/
abbrev paidAt : Dev nD × Tx → Dev nD × Cx
  | (c, .inl j) => (peer j c, none)
  | (c, .inr (false, j, b)) => (c, some (false, j, b))
  | (c, .inr (true, j, b)) => (peer j c, some (true, j, b))
/-- and which of the semaphore's payments it is. -/
abbrev paidAs : Dev nD × Tx → Fin 3
  | (_, .inl j) => j
  | (_, .inr _) => 0
/-- Who makes a payment. -/
abbrev payer : Dev nD × Cx → Fin 3 → Dev nD × Tx
  | (d, none), j => (peer j d, .inl j)
  | (d, some (false, j, b)), _ => (d, .inr (false, j, b))
  | (d, some (true, j, b)), _ => (peer j d, .inr (true, j, b))

theorem payer_paid (p : Dev nD × Tx) : payer (paidAt p) (paidAs p) = p := by
  rcases p with ⟨c, j | ⟨_ | _, j, b⟩⟩
  · show (peer j (peer j c), _) = _; rw [peer_peer]
  · rfl
  · show (peer j (peer j c), _) = _; rw [peer_peer]

/-- A payment as its semaphore's record. -/
abbrev tokOf (p : Dev nD × Tx) : GSem nD τ sig × ℕ × Fin 3 := (kcell (paidAt p), 0, paidAs p)
theorem tokOf_inj : Function.Injective tokOf := fun p q h => by
  rw [← payer_paid p, ← payer_paid q, kcell_inj (congrArg Prod.fst h), show paidAs p = paidAs q from congrArg (fun x => x.2.2) h]
/-- All the payments. -/
def toks : Finset (GSem nD τ sig × ℕ × Fin 3) := Finset.univ.map ⟨tokOf, tokOf_inj⟩

/-! ## A device's transfers, by the other device -/

/-- The four transfer semaphores with the `j`-th other device. -/
def four (Φ : Yx → sProp 𝕄) (j : Fin 3) : sProp 𝕄 := iprop(Φ (false, j, false) ∗ Φ (false, j, true) ∗ Φ (true, j, false) ∗ Φ (true, j, true))

/-- A transfer, its other device first. -/
def byPeer : Fin 3 × (Bool × Bool) ≃ Yx where
  toFun p := (p.2.1, p.1, p.2.2)
  invFun y := (y.2.1, y.1, y.2.2)
  left_inv _ := rfl
  right_inv _ := rfl

theorem yx_four (Φ : Yx → sProp 𝕄) : bigSep Finset.univ Φ = bigSep Finset.univ (four Φ) := by
  rw [bigSep_univ_equiv byPeer Φ, BI.bigSep_univ_prod]
  refine bigSep_congr fun j _ => ?_
  rw [bigSep_univ_eq_bigSepL [(false, false), (false, true), (true, false), (true, true)] (by decide) (by decide)]
  rfl

/-! ## A device's part -/

/-- Towards the `j`-th other device: the rights to pay it, and the credit of its copies. -/
def towards (c : Dev nD) (j : Fin 3) : sProp 𝕄 :=
  iprop(dutyTok EB (kcell (peer j c, none)) 0 j ∗ reached EB (kcell (peer j c, none)) 0
    ∗ four (fun y => dutyTok EB (kcell (paidAt (c, .inr y))) 0 0) j
    ∗ cred (tallyAt (kcell (c, some (true, j, false))) () amtN) ∗ cred (tallyAt (kcell (c, some (true, j, true))) () amtS))

/-- A device's part before its transfers' semaphores are opened. -/
def dealt (c : Dev nD) : sProp 𝕄 :=
  iprop((atPos EB (kcell (c, none)) 0 ∅ 0 ∗ cred (tallyAt (kcell (c, none)) () 3)) ∗ (bigSep Finset.univ fun j => towards c j)
    ∗ bigSep Finset.univ fun y : Yx => openTok EB (kcell (c, some y)))

theorem start_of_dealt (c : Dev nD) :
    iprop((atPos EB (kcell (c, none)) 0 ∅ 0 ∗ cred (tallyAt (kcell (c, none)) () 3)) ∗ (bigSep Finset.univ fun j => towards c j)
        ∗ bigSep Finset.univ fun y : Yx => iprop(atPos EB (kcell (c, some y)) 0 ∅ 0 ∗ reached EB (kcell (c, some y)) 0))
      ⊢ (startToks c : sProp 𝕄) := by
  have hj (j : Fin 3) : iprop(towards c j ∗ four (fun y => iprop(atPos EB (kcell (c, some y)) 0 ∅ 0 ∗ reached EB (kcell (c, some y)) 0)) j)
      ⊢ (iprop(sigToks c j ∗ sendToks c j ∗ waitNeeds c j) : sProp 𝕄) := by
    unfold towards four sigToks sendToks waitNeeds
    iintro ⟨⟨Hd, Hr, ⟨Ht1, Ht2, Ht3, Ht4⟩, Hc1, Hc2⟩, ⟨Ha1, Hr1⟩, ⟨Ha2, Hr2⟩, ⟨Ha3, Hr3⟩, ⟨Ha4, Hr4⟩⟩
    isplitl [Hd Hr Hr3 Hr4]
    · isplitl [Hd]; · iexact Hd
      isplitl [Hr]; · iexact Hr
      isplitl [Hr3] <;> iassumption
    isplitl [Ht1 Ht2 Ht3 Ht4 Hr1 Hr2]
    · isplitl [Ht1 Ht2]
      · isplitl [Ht1]; · iexact Ht1
        iexact Ht2
      isplitl [Ht3]; · iexact Ht3
      isplitl [Ht4]; · iexact Ht4
      isplitl [Hr1] <;> iassumption
    isplitl [Hc1 Hc2]
    · isplitl [Hc1] <;> iassumption
    isplitl [Ha1]; · iexact Ha1
    isplitl [Ha2]; · iexact Ha2
    isplitl [Ha3] <;> iassumption
  have h3 : iprop((bigSep Finset.univ fun j => towards c j)
        ∗ bigSep Finset.univ fun y : Yx => iprop(atPos EB (kcell (c, some y)) 0 ∅ 0 ∗ reached EB (kcell (c, some y)) 0))
      ⊢ (iprop((sigToks c 0 ∗ sigToks c 1 ∗ sigToks c 2) ∗ (sendToks c 0 ∗ sendToks c 1 ∗ sendToks c 2) ∗ (waitNeeds c 0 ∗ waitNeeds c 1 ∗ waitNeeds c 2)) : sProp 𝕄) := by
    rw [yx_four, ← bigSep_fin3 (fun j => sigToks c j), ← bigSep_fin3 (fun j => sendToks c j), ← bigSep_fin3 (fun j => waitNeeds c j),
      ← bigSep_sep', ← bigSep_sep', ← bigSep_sep']
    exact bigSep_mono fun j _ => hj j
  unfold startToks
  iintro ⟨H0, H⟩
  isplitl [H0]; · iexact H0
  iapply h3; iexact H

/-- The credit a device starts with, by semaphore. -/
theorem creds_dealt (c : Dev nD) :
    (Pipeline.launchCred O₀ c : sProp 𝕄)
      ⊢ iprop(cred (tallyAt (kcell (c, none)) () 3)
        ∗ bigSep Finset.univ fun j : Fin 3 => iprop(cred (tallyAt (kcell (c, some (true, j, false))) () amtN) ∗ cred (tallyAt (kcell (c, some (true, j, true))) () amtS))) := by
  have hj (j : Fin 3) : four (fun y : Yx => (cred (tallyAt (kcell (c, some y)) () (cnt (some y) * amtX (some y))) : sProp 𝕄)) j
      ⊢ iprop(cred (tallyAt (kcell (c, some (true, j, false))) () amtN) ∗ cred (tallyAt (kcell (c, some (true, j, true))) () amtS)) := by
    unfold four
    iintro ⟨-, -, H1, H2⟩
    isplitl [H1]
    · iapply (Entails.of_eq (congrArg (fun k => (cred (tallyAt (kcell (c, some (true, j, false))) () k) : sProp 𝕄)) (Nat.one_mul amtN))); iexact H1
    · iapply (Entails.of_eq (congrArg (fun k => (cred (tallyAt (kcell (c, some (true, j, true))) () k) : sProp 𝕄)) (Nat.one_mul amtS))); iexact H2
  refine (creds c).trans ?_
  rw [bigSep_univ_at _ (none : Cx)]
  refine sep_mono (Entails.of_eq rfl) ?_
  refine (bigSep_subset (t := Finset.univ.map ⟨(some : Yx → Cx), Option.some_injective _⟩) (fun x hx => by
    obtain ⟨y, -, rfl⟩ := Finset.mem_map.1 hx
    exact Finset.mem_erase.2 ⟨Option.some_ne_none _, Finset.mem_univ _⟩)).trans ?_
  rw [bigSep_map, yx_four]
  exact bigSep_mono fun j _ => hj j

/-- The payments' rights, dealt to the devices that make them. -/
theorem toks_dealt :
    (bigSep toks fun x => (dutyTok EB x.1 x.2.1 x.2.2 : sProp 𝕄))
      = bigSep Finset.univ fun c : Dev nD => iprop((bigSep Finset.univ fun j : Fin 3 => dutyTok EB (kcell (peer j c, none)) 0 j)
          ∗ bigSep Finset.univ fun j : Fin 3 => four (fun y => dutyTok EB (kcell (paidAt (c, .inr y))) 0 0) j) := by
  unfold toks
  rw [bigSep_map, BI.bigSep_univ_prod]
  refine bigSep_congr fun c _ => ?_
  rw [BI.bigSep_univ_sum, yx_four]
  rfl

/-- One device's share of what the start brings it. -/
theorem dealt_of (c : Dev nD) :
    iprop((bigSep barCells fun g => (reached EB g 0 : sProp 𝕄))
        ∗ atPos EB (kcell (c, none)) 0 ∅ 0 ∗ (bigSep Finset.univ fun y : Yx => openTok EB (kcell (c, some y)))
        ∗ ((bigSep Finset.univ fun j : Fin 3 => dutyTok EB (kcell (peer j c, none)) 0 j)
          ∗ bigSep Finset.univ fun j : Fin 3 => four (fun y => dutyTok EB (kcell (paidAt (c, .inr y))) 0 0) j)
        ∗ Pipeline.launchCred O₀ c)
      ⊢ (dealt c : sProp 𝕄) := by
  unfold dealt
  have hrj (j : Fin 3) : (bigSep barCells fun g => (reached EB g 0 : sProp 𝕄)) ⊢ reached EB (kcell (peer j c, none)) 0 :=
    bigSep_elim (Finset.mem_map.2 ⟨peer j c, Finset.mem_univ _, rfl⟩)
  have hr : (bigSep barCells fun g => (reached EB g 0 : sProp 𝕄)) ⊢ bigSep Finset.univ fun j : Fin 3 => (reached EB (kcell (peer j c, none)) 0 : sProp 𝕄) :=
    (BI.bigSep_of_persistent Finset.univ _).trans (bigSep_mono fun j _ => hrj j)
  have ht : iprop((bigSep Finset.univ fun j : Fin 3 => dutyTok EB (kcell (peer j c, none)) 0 j)
        ∗ (bigSep Finset.univ fun j : Fin 3 => reached EB (kcell (peer j c, none)) 0)
        ∗ (bigSep Finset.univ fun j : Fin 3 => four (fun y => dutyTok EB (kcell (paidAt (c, .inr y))) 0 0) j)
        ∗ bigSep Finset.univ fun j : Fin 3 => iprop(cred (tallyAt (kcell (c, some (true, j, false))) () amtN) ∗ cred (tallyAt (kcell (c, some (true, j, true))) () amtS)))
      ⊢ (bigSep Finset.univ fun j => towards c j : sProp 𝕄) := by
    rw [← bigSep_sep', ← bigSep_sep', ← bigSep_sep']
    exact Entails.of_eq rfl
  iintro ⟨Hr, Ha, Ho, ⟨Hd, H4⟩, Hc⟩
  ihave Hr := hr $$ Hr
  ihave Hc := (creds_dealt c) $$ Hc
  icases Hc with ⟨Hc0, Hc⟩
  isplitl [Ha Hc0]
  · isplitl [Ha] <;> iassumption
  isplitr [Ho]
  · iapply ht
    isplitl [Hd]; · iexact Hd
    isplitl [Hr]; · iexact Hr
    isplitl [H4] <;> iassumption
  iexact Ho

/-- From the barriers at zero and the exchange's record, every device's part and the cells' invariants. -/
theorem fund :
    iprop((bigSep Finset.univ fun c : Dev nD => iprop(semVal (kcell (c, none)) 0 ∗ Pipeline.launchCred O₀ c))
        ∗ BI.own (EB (launchOf barCells xferCells toks)))
      ⊢ (|={Set.univ}=> bigSep Finset.univ fun c : Dev nD => iprop((∃ κ, invs m κ) ∗ dealt c) : sProp 𝕄) := by
  have hdis : Disjoint barCells xferCells := by
    refine Finset.disjoint_left.2 fun g h1 h2 => ?_
    obtain ⟨c, -, rfl⟩ := Finset.mem_map.1 h1
    obtain ⟨p, -, h⟩ := Finset.mem_map.1 h2
    exact Option.some_ne_none _ (congrArg Prod.snd (kcell_inj h))
  have hbar (Φ : GSem nD τ sig → sProp 𝕄) : bigSep barCells Φ = bigSep Finset.univ fun c : Dev nD => Φ (kcell (c, none)) := by
    unfold barCells; rw [bigSep_map]; rfl
  have hxf (Φ : GSem nD τ sig → sProp 𝕄) : bigSep xferCells Φ = bigSep Finset.univ fun c : Dev nD => bigSep Finset.univ fun y : Yx => Φ (kcell (c, some y)) := by
    unfold xferCells; rw [bigSep_map, BI.bigSep_univ_prod]; rfl
  have hc (c : Dev nD) : iprop((iprop((∃ κ, invs m κ) ∗ bigSep barCells fun g => (reached EB g 0 : sProp 𝕄)))
        ∗ atPos EB (kcell (c, none)) 0 ∅ 0 ∗ (bigSep Finset.univ fun y : Yx => openTok EB (kcell (c, some y)))
        ∗ ((bigSep Finset.univ fun j : Fin 3 => dutyTok EB (kcell (peer j c, none)) 0 j)
          ∗ bigSep Finset.univ fun j : Fin 3 => four (fun y => dutyTok EB (kcell (paidAt (c, .inr y))) 0 0) j)
        ∗ Pipeline.launchCred O₀ c)
      ⊢ (iprop((∃ κ, invs m κ) ∗ dealt c) : sProp 𝕄) := by
    iintro ⟨⟨Hi, Hr⟩, H⟩
    isplitl [Hi]; · iexact Hi
    iapply (dealt_of c)
    isplitl [Hr] <;> iassumption
  have hend : iprop((iprop((∃ κ, invs m κ) ∗ bigSep barCells fun g => (reached EB g 0 : sProp 𝕄)))
        ∗ (bigSep Finset.univ fun c : Dev nD => atPos EB (kcell (c, none)) 0 ∅ 0)
        ∗ (bigSep Finset.univ fun c : Dev nD => bigSep Finset.univ fun y : Yx => openTok EB (kcell (c, some y)))
        ∗ (bigSep Finset.univ fun c : Dev nD => iprop((bigSep Finset.univ fun j : Fin 3 => dutyTok EB (kcell (peer j c, none)) 0 j)
          ∗ bigSep Finset.univ fun j : Fin 3 => four (fun y => dutyTok EB (kcell (paidAt (c, .inr y))) 0 0) j))
        ∗ bigSep Finset.univ fun c : Dev nD => Pipeline.launchCred O₀ c)
      ⊢ (bigSep Finset.univ fun c : Dev nD => iprop((∃ κ, invs m κ) ∗ dealt c) : sProp 𝕄) := by
    refine (sep_mono_left (BI.bigSep_of_persistent (Finset.univ : Finset (Dev nD)) _)).trans ?_
    rw [← bigSep_sep', ← bigSep_sep', ← bigSep_sep', ← bigSep_sep']
    exact bigSep_mono fun c _ => hc c
  rw [bigSep_sep']
  iintro ⟨⟨Hs, Hc⟩, Hu⟩
  ihave Hs := (Entails.of_eq (hbar fun g => semVal g 0).symm) $$ Hs
  imod (Rounds.fund_launch EB (exch m) hdis (fun _ _ h => h) toks (Es := Set.univ)) $$ [Hs Hu] with ⟨%κ, -, Hi, Hr, Ha, Ho, Ht⟩
  · isplitl [Hs] <;> iassumption
  imodintro
  ihave Ha := (Entails.of_eq (hbar fun g => atPos EB g 0 ∅ 0)) $$ Ha
  ihave Ho := (Entails.of_eq (hxf fun g => openTok EB g)) $$ Ho
  ihave Ht := (Entails.of_eq (toks_dealt (F := F))) $$ Ht
  iapply hend
  isplitl [Hi Hr]
  · isplitl [Hi]
    · iexists κ; unfold invs; iexact Hi
    iexact Hr
  isplitl [Ha]; · iexact Ha
  isplitl [Ho]; · iexact Ho
  isplitl [Ht] <;> iassumption

/-- Opening a device's transfers' semaphores, all at zero. -/
theorem open_dealt (κ : GSem nD τ sig → ℕ) (c : Dev nD) :
    iprop(invs m κ ∗ dealt c ∗ bigSep Finset.univ fun y : Yx => semVal (kcell (c, some y)) 0)
      ⊢ (|={Set.univ}=> startToks c : sProp 𝕄) := by
  have ho : iprop(invs m κ ∗ (bigSep Finset.univ fun y : Yx => openTok EB (kcell (c, some y))) ∗ bigSep Finset.univ fun y : Yx => semVal (kcell (c, some y)) 0)
      ⊢ (|={Set.univ}=> bigSep Finset.univ fun y : Yx => iprop(atPos EB (kcell (c, some y)) 0 ∅ 0 ∗ reached EB (kcell (c, some y)) 0) : sProp 𝕄) := by
    refine (sep_mono_left (BI.bigSep_of_persistent (Finset.univ : Finset Yx) _)).trans ?_
    rw [← bigSep_sep', ← bigSep_sep']
    refine (bigSep_mono fun y _ => ?_).trans (bigSep_fupd _ _)
    exact (sep_mono_left (inv_at m κ c (some y))).trans (Rounds.cell_open EB (exch m) (Set.mem_univ _))
  unfold dealt
  iintro ⟨Hi, ⟨Ha, Ht, Ho⟩, Hs⟩
  imod ho $$ [Hi Ho Hs] with Ho
  · isplitl [Hi]; · iexact Hi
    isplitl [Ho] <;> iassumption
  imodintro
  iapply (start_of_dealt c)
  isplitl [Ha]; · iexact Ha
  isplitl [Ht] <;> iassumption

end Cert.KernelIdeal

end
-- ==== Proof.Run.lean ====
/-
  The run of the whole program on the four devices: the host operations, the kernel with its exchange, and what
  every device's memory and semaphores hold at the end.
-/
module

public import proofs.«01_k».proof.Proof.Deal
public import proofs.«01_k».proof.Proof.Gen.KernelIdeal.Frame
public import Idealize.ShloMosaic.Lib.Pipeline.Value

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's array -/

theorem flushed_eq (c : Dev nD) (t : Fin cfg0.N) :
    (dat0 m c).flushed 1 t = (win0_1.blk t).view.read (Elt F) (outAt m c) := by
  show (cfg0.win 1).cut (grid0.coords t) (outAt m c) = _
  obtain rfl := fin_N0 t
  funext i
  refine congrArg (outAt m c) (funext fun a => Fin.ext ?_)
  show (i a : ℕ) = ((win0_1.rect t0_0).emb i a : ℕ)
  rw [Rect.emb_apply]
  have e : ∀ a, (win0_1.rect t0_0).off a = 0 ∧ (win0_1.rect t0_0).stride a = 1 := by decide +kernel
  rw [(e a).1, (e a).2, Nat.zero_add, Nat.one_mul]

theorem mem_blk (t : Fin cfg0.N) (i : S16x1x16x64.Idx) : i ∈ ((cfg0.win 1).blk t).view.set := by
  show i ∈ ((View.whole main_v3).slice (win0_1.rect t)).set
  rw [View.set_slice_whole, Rect.mem_set_unit]
  have e : ∀ a, win0_1.index t a * win0_1.size a = 0 ∧ win0_1.xsize (grid0.coords t) a = S16x1x16x64.size a := by
    rcases fin_N0 t with rfl; decide +kernel
  intro a
  have h := e a
  have hi := (i a).isLt
  exact ⟨by
    show win0_1.index t a * win0_1.size a ≤ (i a : ℕ)
    rw [h.1]; exact Nat.zero_le _, by
    show (i a : ℕ) < win0_1.index t a * win0_1.size a + win0_1.xsize (grid0.coords t) a
    rw [h.1, h.2, Nat.zero_add]; exact hi⟩

/-- The result's array ends with what the merge leaves. -/
theorem final_out (c : Dev nD) : (dat0 m c).arrAt 1 cfg0.N = outAt m c :=
  (dat0 m c).arrAt_eq_of_cover 1 (outAt m c) (fun t _ => flushed_eq m c t) fun i => ⟨t0_0, flush0_1 _, mem_blk t0_0 i⟩

/-! ## The launch's data -/

def adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

/-- The kernel's own semaphores: its two rings' and its transfers'. -/
abbrev Kx : Type := (Bool × Fin 4) ⊕ Yx
abbrev osem : Kx → SemLoc sig
  | .inl (false, s) => .dma (kSem s)
  | .inl (true, s) => .dma (vSem s)
  | .inr y => csem (some y)

theorem own_facts : Pipeline.OwnSemFacts (pcfgs (F := F) 0).spec osem := by
  have h : Pipeline.OwnSemFacts spec0 osem := by decide
  exact h

theorem ownSems0_own (c : Dev nD) :
    (Pipeline.ownSems0 (τ := τ) osem c : sProp 𝕄)
      = iprop(((bigSep Finset.univ fun s => semVal ((c : Thread nD τ), .dma (kSem s)) 0) ∗ (bigSep Finset.univ fun s => semVal ((c : Thread nD τ), .dma (vSem s)) 0))
        ∗ bigSep Finset.univ fun y : Yx => semVal (kcell (c, some y)) 0) := by
  unfold Pipeline.ownSems0
  rw [BI.bigSep_univ_sum, BI.bigSep_univ_prod, bigSep_univ_eq_bigSepL [false, true] (by decide) (by decide)]
  rfl

theorem zeros_eq (c : Dev nD) : (iprop(zeros c 0 ∗ zeros c 1 ∗ zeros c 2) : sProp 𝕄) = bigSep Finset.univ fun y : Yx => semVal (kcell (c, some y)) 0 := by
  rw [yx_four, bigSep_fin3]
  rfl

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What a device starts with besides its buffers. -/
def rides (c : Dev nD) : sProp 𝕄 := iprop(((∃ κ, invs m κ) ∗ dealt c) ∗ owes (c : Thread nD τ) (O₀ c) ∅)

/-- The host operations, everything else riding along. -/
def H0 : ℍ := Pipeline.HostSeg.ofOps _ _ _ _ _ (Pipeline.ucRefs τ sig) (hostOps0 (F := F))
  (fun op h => Pipeline.sub_ucRefs op (List.forall_iff_forall_mem.mp hostOps0_sub op h))
  (fun op h => List.forall_iff_forall_mem.mp hostOps0_fresh op h) (fun c b => m (c, b)) (rides m)

/-- What a device ends with: its arguments as launched, the result, its barrier at zero. -/
def Tₙ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_v3) ↦{fullShare} outAt m c)
    ∗ semVal (kcell (c, none)) 0)

theorem arrays_eq (c : Dev nD) (Fa) : ((pdats (F := F) m 0 c).arrays Fa : sProp 𝕄)
    = iprop((((c : Thread nD τ).loc main_arg0) ↦{fullShare} Fa 0) ∗ (((c : Thread nD τ).loc main_v3) ↦{fullShare} Fa 1)) := by
  rw [Pipeline.arrays_eq (Pipeline.pin (pcfgs (F := F)) adm) (pdats m) 0 c launch0.arr_whole ((pdats m 0 c).share_full fun _ => rfl) Fa, bigSep_W0]

theorem arrAt_in (c : Dev nD) : (pdats (F := F) m 0 c).arrAt 0 (Pipeline.pin (pcfgs (F := F)) adm 0).N = m ((c : Thread nD τ).loc main_arg0) :=
  ((dat0 (F := F) m c).arrAt_in 0 rfl _).trans (V_main_arg0 m c)
theorem arrAt_out (c : Dev nD) : (pdats (F := F) m 0 c).arrAt 1 (Pipeline.pin (pcfgs (F := F)) adm 0).N = outAt m c := final_out m c

/-- A staging buffer's wait comes before everything owed. -/
theorem mayWait_stage (c : Dev nD) (w : Fin cfg0.W) (s : Fin (cfg0.win w).nbuf) (t : Fin (cfg0.N + 1)) :
    (levAts L lv : sProp 𝕄) ⊢ MayWait (c : Thread nD τ) (.dma ((cfg0.win w).sem s)) () ((dat0 (F := F) m c).owed t) := by
  have h : ∀ x, csem x ≠ .dma ((cfg0.win w).sem s) := by
    fin_cases w <;> fin_cases s <;> decide
  rcases t with ⟨_ | n, ht⟩
  · exact mayWait_own c _ h
  · show _ ⊢ MayWait (c : Thread nD τ) (.dma ((cfg0.win w).sem s)) () (0 : CellTallies nD τ sig Unit)
    rw [MayWait_zero]; iintro -; iempintro

/-- The kernel's region. -/
def R0 : ℝ𝕊 0 where
  win := launch0.win.to₀
  block_pos := launch0.block_pos
  stage_whole := launch0.stage_whole
  K := Kx
  osem := osem
  ho := own_facts
  hbody c := (body_obligation m c).loose
  hwaits c := Pipeline.cellsWaits_intro _ (pdats m) () 0 c fun w s t => mayWait_stage m c w s t
  pre c := iprop(StableHlo.held (c : Thread nD τ) (Pipeline.ucRefs τ sig) (StableHlo.after hostOps0 fun b => m (c, b)) ∗ rides m c)
  post c := iprop(Tₙ m c ∗ ∃ W, owes (c : Thread nD τ) 0 W)
  X c := iprop((∃ κ, invs m κ) ∗ levAts L lv ∗ startToks c
    ∗ ((((c : Thread nD τ).loc main_v1) ↦{fullShare} V m c main_v1) ∗ (((c : Thread nD τ).loc main_v2) ↦{fullShare} V m c main_v2))
    ∗ (bigSep Finset.univ fun s => semVal ((c : Thread nD τ), .dma (kSem s)) 0) ∗ (bigSep Finset.univ fun s => semVal ((c : Thread nD τ), .dma (vSem s)) 0))
  Y c := semVal (kcell (c, none)) 0
  Z c := iprop((((c : Thread nD τ).loc main_arg1) ↦{fullShare} V m c main_arg1) ∗ (((c : Thread nD τ).loc main_arg2) ↦{fullShare} V m c main_arg2))
  hentry c := by
    have hsplit := Pipeline.arrays_of_unscopedBufs (pcfgs (F := F)) adm (pdats m) launch0.win launch0.arr_whole c
      ((pdats m 0 c).share_full fun _ => rfl) (V m c) fun _ => rfl
    have hub : StableHlo.held (c : Thread nD τ) (Pipeline.ucRefs τ sig) (StableHlo.after hostOps0 fun b => m (c, b))
        ⊢ (unscopedBufs c (V m c) : sProp 𝕄) := Entails.of_eq (Pipeline.unscopedBufs_held c (StableHlo.after hostOps0 fun b => m (c, b))).symm
    rw [ownSems0_own]
    unfold rides
    iintro ⟨⟨Hb, ⟨⟨%κ, #Hi⟩, Hd⟩, HO⟩, ⟨⟨Hk, Hv⟩, Hy⟩, Hlev⟩
    ihave Hub := hub $$ Hb
    ihave H := hsplit $$ Hub
    icases H with ⟨Ha, Hr⟩
    ihave Hr := (Entails.of_eq (unscopedRest0_eq c (V m c))) $$ Hr
    icases Hr with ⟨H1, H2, Hv1, Hv2⟩
    imod (open_dealt m κ c) $$ [Hd Hy] with Hst
    · isplitr; · iexact Hi
      isplitl [Hd] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitr [H1 H2]
    · isplitr; · iexists κ; iexact Hi
      isplitl [Hlev]; · iexact Hlev
      isplitl [Hst]; · iexact Hst
      isplitl [Hv1 Hv2]
      · isplitl [Hv1] <;> iassumption
      isplitl [Hk] <;> iassumption
    isplitl [H1] <;> iassumption
  hin c := by
    rw [scopedRest0_eq]
    show _ ⊢ Φ₀ m c
    unfold Φ₀ slotBufs accBufs
    iintro ⟨⟨Hi, Hlev, Hst, Hv, Hks, Hvs⟩, -, ⟨H0, H1, H4, H5, H6, H7⟩⟩
    ihave Hv := (rows_of_bufs m c) $$ Hv
    isplitl [Hi]; · iexact Hi
    isplitl [Hlev]; · iexact Hlev
    isplitl [Hst]; · iexact Hst
    isplitl [Hv]; · iexact Hv
    isplitl [H0 H1 Hks Hvs]
    · isplitl [H0]; · iexact H0
      isplitl [H1]; · iexact H1
      isplitl [Hks] <;> iassumption
    isplitl [H4]; · iexact H4
    isplitl [H5]; · iexact H5
    isplitl [H6] <;> iassumption
  hout c := by
    rw [scopedRest0_eq, ownSems0_own]
    show Φ₁ c ⊢ _
    unfold Φ₁ slotBufs accBufs
    rw [zeros_eq]
    iintro ⟨⟨H0, H1, Hks, Hvs⟩, ⟨H4, H5, H6, H7⟩, Hz, Hb⟩
    isplitl [Hb]; · iexact Hb
    isplitl [Hks Hvs Hz]
    · isplitr [Hz]
      · isplitl [Hks] <;> iassumption
      iexact Hz
    isplitl [H0]; · iexact H0
    isplitl [H1]; · iexact H1
    isplitl [H4]; · iexact H4
    isplitl [H5]; · iexact H5
    isplitl [H6] <;> iassumption
  hexit c := by
    unfold Tₙ; rw [V_main_arg1, V_main_arg2]
    have ha : ((pdats (F := F) m 0 c).arrays (fun w => (pdats (F := F) m 0 c).arrAt w (Pipeline.pin (pcfgs (F := F)) adm 0).N) : sProp 𝕄)
        ⊢ iprop((((c : Thread nD τ).loc main_arg0) ↦{fullShare} m ((c : Thread nD τ).loc main_arg0)) ∗ (((c : Thread nD τ).loc main_v3) ↦{fullShare} outAt m c)) := by
      rw [arrays_eq, arrAt_in, arrAt_out]
    iintro ⟨Ha, HO, Hb, ⟨H1, H2⟩⟩
    ihave Ha := ha $$ Ha
    icases Ha with ⟨H0, H3⟩
    imodintro
    isplitr [HO]
    · isplitl [H0]; · iexact H0
      isplitl [H1]; · iexact H1
      isplitl [H2]; · iexact H2
      isplitl [H3] <;> iassumption
    unfold Pipeline.Dat.owesAt Pipeline.owesWithin
    icases HO with ⟨%W, -, HO⟩; iexists W; iexact HO

def segs : List (Pipeline.Seg (pcfgs (F := F)) adm (pdats m) () defs₀ 𝒱₀ L lv) := [.host (H0 m), .region (R0 m)]

theorem main_eq (c : Dev nD) : main (F := F) c = Pipeline.Seg.run (segs m) := main_segs adm (pdats m) () 𝒱₀ L lv (H0 m) (R0 m) rfl c

/-! ## The launch -/

def u₀ : UU :=
  (initOf (Pipeline.cells (Pipeline.pin (pcfgs (F := F)) adm) cellOf_inj) (Pipeline.launchToks (Pipeline.pin (pcfgs (F := F)) adm) cellOf_inj),
    (launchOf barCells xferCells toks, 1))

/-- The exchange's record is with device 0 at first. -/
def G (c : Dev nD) : sProp 𝕄 := if c = 0 then BI.own (EB (launchOf barCells xferCells toks)) else iprop(emp)

theorem bigSep_G_eq : bigSep Finset.univ (G (F := F)) = (BI.own (EB (launchOf barCells xferCells toks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (kcell (c, none)) 0 := by
  unfold unscopedSems0
  rw [bigSep_eq_bigSepL_of_eq [SemLoc.reg barSem] (by decide) (by decide)]
  rfl

abbrev T₀ (c : Dev nD) : sProp 𝕄 := (H0 m).pre c

/-- From what the launch hands the devices, every device's start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((semVal (kcell (c, none)) 0 ∗ Pipeline.launchCred O₀ c) ∗ G c
          ∗ (unscopedBufs c (fun b => m ((c : Thread nD τ).loc b)) ∗ owes (c : Thread nD τ) (O₀ c) ∅)) : sProp 𝕄) := by
    rw [unscopedSems0_eq]
    iintro ⟨Hub, Hus, HO, Hcr, -, HG⟩
    isplitl [Hus Hcr]; · isplitl [Hus] <;> iassumption
    isplitl [HG]; · iexact HG
    isplitl [Hub] <;> iassumption
  have h2 (c : Dev nD) : iprop(iprop((∃ κ, invs m κ) ∗ dealt c) ∗ (unscopedBufs c (fun b => m ((c : Thread nD τ).loc b)) ∗ owes (c : Thread nD τ) (O₀ c) ∅))
      ⊢ T₀ m c := by
    have hub : (unscopedBufs c (fun b => m ((c : Thread nD τ).loc b)) : sProp 𝕄)
        ⊢ StableHlo.held (c : Thread nD τ) (Pipeline.ucRefs τ sig) (fun b => m (c, b)) := Entails.of_eq (Pipeline.unscopedBufs_held c fun b => m (c, b))
    unfold T₀ H0 Pipeline.HostSeg.ofOps rides
    iintro ⟨Hd, Hub, HO⟩
    ihave Hub := hub $$ Hub
    isplitl [Hub]; · iexact Hub
    isplitl [Hd] <;> iassumption
  have h1' : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => iprop(semVal (kcell (c, none)) 0 ∗ Pipeline.launchCred O₀ c)) ∗ bigSep Finset.univ (G (F := F))
          ∗ bigSep Finset.univ fun c : Dev nD => iprop(unscopedBufs c (fun b => m ((c : Thread nD τ).loc b)) ∗ owes (c : Thread nD τ) (O₀ c) ∅)) : sProp 𝕄) := by
    rw [← bigSep_sep', ← bigSep_sep']; exact bigSep_mono fun c _ => h1 c
  have h2' : iprop((bigSep Finset.univ fun c : Dev nD => iprop((∃ κ, invs m κ) ∗ dealt c))
        ∗ bigSep Finset.univ fun c : Dev nD => iprop(unscopedBufs c (fun b => m ((c : Thread nD τ).loc b)) ∗ owes (c : Thread nD τ) (O₀ c) ∅))
      ⊢ bigSep Finset.univ (T₀ m) := by
    rw [← bigSep_sep']; exact bigSep_mono fun c _ => h2 c
  iintro ⟨H, -⟩
  ihave H := h1' $$ H
  icases H with ⟨Hs, HG, Hrest⟩
  ihave Hu := (Entails.of_eq (bigSep_G_eq (F := F))) $$ HG
  imod (fund m) $$ [Hs Hu] with Hd
  · isplitl [Hs] <;> iassumption
  imodintro
  iapply h2'
  isplitl [Hd] <;> iassumption

-- The launch theorem's implicit arguments are found by unifying its conclusion with this one.
set_option backward.isDefEq.respectTransparency.types false in
/-- From any memory with the semaphores at zero, every fair execution of the four devices ends, with the result holding
    the merge on every device, the arguments unchanged and every semaphore at zero. -/
theorem run_main : θ_run defs (onTc (τ := τ) (main (F := F))) (s₀ m ρ)
    (fun r => (∀ c : Dev nD, r.2.mem ((c : Thread nD τ).loc main_v3) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := T₀ m) (Tₙ := Tₙ m)
    (hch := ⟨fun c => .rfl, fun c => .rfl, fun c => .rfl⟩)
    (hinit := init m ρ)
    (QY := fun c s => (s.mem ((c : Thread nD τ).loc main_v3) = outAt m c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)) ∧ s.sem (kcell (c, none)) = 0)
    (hfin := fun c s' => by
      unfold Tₙ
      iintro ⟨⟨H0, H1, H2, H3, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h3, Buf.eq_of_forall_mem_univ h0, Buf.eq_of_forall_mem_univ h1, Buf.eq_of_forall_mem_univ h2⟩, hb⟩
      iexact HSI)
    (hQ := fun s h hs => ⟨fun c => (h c).1, sem_eq_zero hs fun c sm hsm => by
      have hl : ∀ sm : SemLoc sig, sm.isScoped .tc = false → sm = .reg barSem := by decide
      rw [hl sm hsm]
      exact (h c).2⟩)

end Cert.KernelIdeal

end
-- ==== Proof.Loads.lean ====
/-
  What the kernel loads, element by element: a row of the queries, of the keys and of the values, in terms of the
  argument arrays a device is launched with.
-/
module

public import proofs.«01_k».proof.Proof.Contents
public import Idealize.ShloMosaic.Lib.Pointwise

@[expose] public section

noncomputable section

namespace Cert.KernelIdeal

open Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ)

/-- The row of the batch that device `c` computes `j`-th. -/
def rowIx (c : Dev nD) (j : Fin 8) : Fin 16 := ⟨8 * (xOf c).val + j.val, by have := (xOf c).isLt; omega⟩

/-- The queries, keys and values a device is launched with. -/
def argQ (c : Dev nD) : Vec F S16x1x16x64 .f32 := m ((c : Thread nD τ).loc main_arg0)
def argK (c : Dev nD) : Vec F S16x1024x16x64 .f32 := m ((c : Thread nD τ).loc main_arg1)
def argV (c : Dev nD) : Vec F S16x1024x16x64 .f32 := m ((c : Thread nD τ).loc main_arg2)

/-- The staged queries are the queries. -/
theorem qstg_eq (c : Dev nD) : qstg m c = argQ m c := by
  unfold qstg iblk argQ
  refine Eq.trans (funext fun i => ?_) (V_main_arg0 m c)
  refine congrArg (V m c main_arg0) (funext fun a => Fin.ext ?_)
  show ((win0_0.rect t0_0).emb i a : ℕ) = (i a : ℕ)
  rw [Rect.emb_apply]
  have e : ∀ a, (win0_0.rect t0_0).off a = 0 ∧ (win0_0.rect t0_0).stride a = 1 := by decide +kernel
  rw [(e a).1, (e a).2, Nat.zero_add, Nat.one_mul]

/-- The keys as the kernel gets them: the positions last. -/
theorem V_keys (c : Dev nD) : V m c main_v1
    = transpose S16x16x64x1024 [0, 2, 3, 1] (argK m c) transposes_S16x1024x16x64_S16x16x64x1024_0_2_3_1 := by
  unfold argK V hostOps0; after_results
/-- The values likewise. -/
theorem V_values (c : Dev nD) : V m c main_v2
    = transpose S16x16x64x1024 [0, 2, 3, 1] (argV m c) transposes_S16x1024x16x64_S16x16x64x1024_0_2_3_1 := by
  unfold argV V hostOps0; after_results

theorem trans_at (x : Vec F S16x1024x16x64 .f32) (b h : Fin 16) (d : Fin 64) (k : Fin 1024) :
    transpose S16x16x64x1024 [0, 2, 3, 1] x transposes_S16x1024x16x64_S16x16x64x1024_0_2_3_1 (ix4 b h d k) = x (ix4 b k h d) := by
  pointwise []

/-- Row `j` of the queries at a head and a feature. -/
theorem qrow_at (c : Dev nD) (j : Fin 8) (h : Fin 16) (d : Fin 64) :
    qrow m c j (ix4 (0 : Fin 1) (0 : Fin 1) h d) = argQ m c (ix4 (rowIx c j) (0 : Fin 1) h d) := by
  unfold qrow
  rw [qstg_eq]
  refine congrArg (argQ m c) (funext fun a => Fin.ext ?_)
  show (k0_off2 c (BitVec.ofNat 32 j.val)) a + 1 * ((ix4 (0 : Fin 1) (0 : Fin 1) h d) a).val = _
  rw [k0_off2_eq]
  match a with
  | ⟨0, _⟩ => show 8 * (c.val / 2) + j.val + 1 * 0 = 8 * (c.val / 2) + j.val; omega
  | ⟨1, _⟩ => rfl
  | ⟨2, _⟩ => exact (Nat.zero_add _).trans (Nat.one_mul _)
  | ⟨3, _⟩ => exact (Nat.zero_add _).trans (Nat.one_mul _)

/-- The element of the transposed array under an element of its row `j`. -/
theorem row_at (X : Vec F S16x16x64x1024 .f32) (c : Dev nD) (j : Fin 8) (h : Fin 16) (d : Fin 64) (k : Fin 1024) :
    kM.view.readAt (Elt F) (rowRect c j).toLoadRect X (ix4 (0 : Fin 1) h d k) = X (ix4 (rowIx c j) h d k) := by
  refine congrArg X (funext fun a => Fin.ext ?_)
  show (k0_off1 c (BitVec.ofNat 32 j.val)) a + 1 * ((ix4 (0 : Fin 1) h d k) a).val = _
  rw [k0_off1_eq]
  match a with
  | ⟨0, _⟩ => show 8 * (c.val / 2) + j.val + 1 * 0 = 8 * (c.val / 2) + j.val; omega
  | ⟨1, _⟩ => exact (Nat.zero_add _).trans (Nat.one_mul _)
  | ⟨2, _⟩ => exact (Nat.zero_add _).trans (Nat.one_mul _)
  | ⟨3, _⟩ => exact (Nat.zero_add _).trans (Nat.one_mul _)

/-- Row `j` of the keys at a head, a feature and a position. -/
theorem krow_at (c : Dev nD) (j : Fin 8) (h : Fin 16) (d : Fin 64) (k : Fin 1024) :
    krow m c j (ix4 (0 : Fin 1) h d k) = argK m c (ix4 (rowIx c j) k h d) := by
  unfold krow
  rw [V_keys]
  exact (row_at _ c j h d k).trans (trans_at _ _ _ _ _)
/-- Row `j` of the values likewise. -/
theorem vrow_at (c : Dev nD) (j : Fin 8) (h : Fin 16) (d : Fin 64) (k : Fin 1024) :
    vrow m c j (ix4 (0 : Fin 1) h d k) = argV m c (ix4 (rowIx c j) k h d) := by
  unfold vrow
  rw [V_values]
  exact (row_at _ c j h d k).trans (trans_at _ _ _ _ _)

end Cert.KernelIdeal

end
-- ==== Proof.Softmax.lean ====
/-
  Softmax of real scores over two blocks, in the extended reals: the merge of the blocks' numerators, largest scores
  and sums is the softmax average over all the scores. The values averaged may be any extended reals.
-/
module

public import Idealize.ShloMosaic.PureOps.Ideal

@[expose] public section

noncomputable section

namespace Cert.Softmax

open Idealize.ShloMosaic

/-! ## Sums with real weights -/

/-- A nonnegative real distributes over a sum of extended reals. -/
theorem coe_mul_sum {ι : Type} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (by exact_mod_cast ha) (EReal.coe_ne_top a), ih]

/-- The sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-! ## The largest of real scores -/

/-- The largest of finitely many extended reals, from −∞ up, is at most `x` where all are. -/
theorem fold_max_le {ι : Type} (S : Finset ι) (f : ι → EReal) (x : EReal) : S.fold max ⊥ f ≤ x ↔ ∀ i ∈ S, f i ≤ x := by
  rw [Finset.fold_max_le]
  exact ⟨fun h => h.2, fun h => ⟨bot_le, h⟩⟩

/-- Each of them is at most their largest. -/
theorem le_fold_max {ι : Type} (S : Finset ι) (f : ι → EReal) (i : ι) (hi : i ∈ S) : f i ≤ S.fold max ⊥ f :=
  (fold_max_le S f _).1 le_rfl i hi

/-- The larger of two reals, read in the extended reals. -/
theorem coe_max (x y : ℝ) : max (x : EReal) (y : EReal) = ((max x y : ℝ) : EReal) :=
  ((EReal.coe_strictMono.monotone).map_max (a := x) (b := y)).symm

/-- The largest of at least one real is a real. -/
theorem fold_max_real {ι : Type} (S : Finset ι) (hS : S.Nonempty) (f : ι → ℝ) :
    ∃ x : ℝ, S.fold max ⊥ (fun i => (f i : EReal)) = x := by
  refine ⟨S.sup' hS f, le_antisymm ((fold_max_le S _ _).2 fun i hi => ?_) ?_⟩
  · exact_mod_cast Finset.le_sup' f hi
  · obtain ⟨i, hi, e⟩ := Finset.exists_mem_eq_sup' hS f
    rw [e]
    exact le_fold_max S (fun i => (f i : EReal)) i hi

/-! ## Two blocks -/

variable {ι₀ ι₁ : Type} [Fintype ι₀] [Fintype ι₁] [Nonempty ι₀] [Nonempty ι₁]

/-- The largest score over both blocks is the larger of the blocks' largest. -/
theorem fold_max_split (f : ι₀ ⊕ ι₁ → EReal) :
    Finset.univ.fold max ⊥ f
      = max (Finset.univ.fold max ⊥ fun i => f (.inl i)) (Finset.univ.fold max ⊥ fun i => f (.inr i)) := by
  refine le_antisymm ((fold_max_le _ _ _).2 fun i _ => ?_) (max_le ((fold_max_le _ _ _).2 fun i _ => ?_) ((fold_max_le _ _ _).2 fun i _ => ?_))
  · match i with
    | .inl i => exact le_max_of_le_left (le_fold_max _ (fun i => f (.inl i)) i (Finset.mem_univ _))
    | .inr i => exact le_max_of_le_right (le_fold_max _ (fun i => f (.inr i)) i (Finset.mem_univ _))
  · exact le_fold_max _ f (.inl i) (Finset.mem_univ _)
  · exact le_fold_max _ f (.inr i) (Finset.mem_univ _)

/-- A block's numerator: its values weighted by the exponentials of the scores less the block's largest. -/
def num {ι : Type} [Fintype ι] (s v : ι → EReal) : EReal :=
  ∑ i, Ideal.exp (s i - Finset.univ.fold max ⊥ s) * v i

/-- A block's sum of exponentials. -/
def den {ι : Type} [Fintype ι] (s : ι → EReal) : EReal := ∑ i, Ideal.exp (s i - Finset.univ.fold max ⊥ s)

/-- The softmax average of values. -/
def avg {ι : Type} [Fintype ι] (s v : ι → EReal) : EReal :=
  ∑ i, v i * Ideal.div (Ideal.exp (s i - Finset.univ.fold max ⊥ s)) (den s)

/-- Two blocks merged: numerators and sums are brought to the larger of the two largest scores, added, divided. -/
def merge {ι₀ ι₁ : Type} [Fintype ι₀] [Fintype ι₁] (s₀ v₀ : ι₀ → EReal) (s₁ v₁ : ι₁ → EReal) : EReal :=
  Ideal.div
    (Ideal.exp (Finset.univ.fold max ⊥ s₀ - max (Finset.univ.fold max ⊥ s₀) (Finset.univ.fold max ⊥ s₁)) * num s₀ v₀
      + Ideal.exp (Finset.univ.fold max ⊥ s₁ - max (Finset.univ.fold max ⊥ s₀) (Finset.univ.fold max ⊥ s₁)) * num s₁ v₁)
    (Ideal.exp (Finset.univ.fold max ⊥ s₀ - max (Finset.univ.fold max ⊥ s₀) (Finset.univ.fold max ⊥ s₁)) * den s₀
      + Ideal.exp (Finset.univ.fold max ⊥ s₁ - max (Finset.univ.fold max ⊥ s₀) (Finset.univ.fold max ⊥ s₁)) * den s₁)

/-- The order of the blocks is immaterial. -/
theorem merge_comm (s₀ v₀ : ι₀ → EReal) (s₁ v₁ : ι₁ → EReal) : merge s₀ v₀ s₁ v₁ = merge s₁ v₁ s₀ v₀ := by
  unfold merge
  rw [max_comm (Finset.univ.fold max ⊥ s₀)]
  congr 1 <;> exact add_comm _ _

/-- The exponential of a difference of reals. -/
theorem exp_sub (a b : ℝ) : Ideal.exp ((a : EReal) - (b : EReal)) = (Real.exp (a - b) : EReal) := by
  rw [← EReal.coe_sub, Ideal.exp_coe]

/-- A block's exponentials brought from the largest `x` to `M`. -/
theorem exp_shift (a x M : ℝ) : Real.exp (x - M) * Real.exp (a - x) = Real.exp (a - M) := by
  rw [← Real.exp_add]; congr 1; ring

/-- A block's numerator of real scores, brought to `M`. -/
theorem shift_num {ι : Type} [Fintype ι] (r : ι → ℝ) (v : ι → EReal) (x M : ℝ)
    (hx : Finset.univ.fold max ⊥ (fun i => (r i : EReal)) = x) :
    Ideal.exp ((x : EReal) - M) * num (fun i => (r i : EReal)) v = ∑ i, (Real.exp (r i - M) : EReal) * v i := by
  unfold num
  rw [hx, exp_sub, coe_mul_sum _ _ (Real.exp_pos _).le]
  refine Finset.sum_congr rfl fun i _ => ?_
  rw [exp_sub, ← mul_assoc, ← EReal.coe_mul, exp_shift]

/-- A block's sum for real scores, brought to `M`. -/
theorem shift_den {ι : Type} [Fintype ι] (r : ι → ℝ) (x M : ℝ)
    (hx : Finset.univ.fold max ⊥ (fun i => (r i : EReal)) = x) :
    Ideal.exp ((x : EReal) - M) * den (fun i => (r i : EReal)) = ∑ i, (Real.exp (r i - M) : EReal) := by
  unfold den
  rw [hx, exp_sub, coe_mul_sum _ _ (Real.exp_pos _).le]
  refine Finset.sum_congr rfl fun i _ => ?_
  rw [exp_sub, ← EReal.coe_mul, exp_shift]

/-- THE MERGE: for real scores, two blocks merged give the softmax average over both. -/
theorem merge_eq_avg (r : ι₀ ⊕ ι₁ → ℝ) (v : ι₀ ⊕ ι₁ → EReal) :
    merge (fun i => (r (.inl i) : EReal)) (fun i => v (.inl i)) (fun i => (r (.inr i) : EReal)) (fun i => v (.inr i))
      = avg (fun i => (r i : EReal)) v := by
  obtain ⟨x₀, h₀⟩ := fold_max_real Finset.univ Finset.univ_nonempty fun i : ι₀ => r (.inl i)
  obtain ⟨x₁, h₁⟩ := fold_max_real Finset.univ Finset.univ_nonempty fun i : ι₁ => r (.inr i)
  have hM : Finset.univ.fold max ⊥ (fun i => (r i : EReal)) = ((max x₀ x₁ : ℝ) : EReal) := by
    rw [fold_max_split, h₀, h₁]; exact coe_max x₀ x₁
  have hm : max (x₀ : EReal) (x₁ : EReal) = ((max x₀ x₁ : ℝ) : EReal) := coe_max x₀ x₁
  generalize hMM : max x₀ x₁ = M at hM hm
  have hpos : 0 < ∑ i, Real.exp (r i - M) := Finset.sum_pos (fun i _ => Real.exp_pos _) Finset.univ_nonempty
  have hden : den (fun i => (r i : EReal)) = ((∑ i, Real.exp (r i - M) : ℝ) : EReal) := by
    unfold den
    rw [hM, coe_sum]
    exact Finset.sum_congr rfl fun i _ => exp_sub _ _
  unfold merge avg
  rw [h₀, h₁, hm, shift_num _ _ x₀ M h₀, shift_num _ _ x₁ M h₁, shift_den _ x₀ M h₀, shift_den _ x₁ M h₁, hden, hM,
    ← Fintype.sum_sum_type (fun i => (Real.exp (r i - M) : EReal) * v i),
    ← Fintype.sum_sum_type (fun i => (Real.exp (r i - M) : EReal)), ← coe_sum, Ideal.div_coe hpos.ne', mul_comm,
    coe_mul_sum _ _ (by positivity)]
  refine Finset.sum_congr rfl fun i _ => ?_
  rw [exp_sub, Ideal.div_coe hpos.ne']
  rw [mul_comm (v i), mul_comm ((Real.exp (r i - M) : ℝ) : EReal) (((1 / _ : ℝ)) : EReal), mul_assoc]

end Cert.Softmax

end
-- ==== Proof.KValue.lean ====
/-
  The kernel's result, element by element, at the extended reals: the merge of the two blocks' softmax numerators,
  largest scores and sums.
-/
module

public import proofs.«01_k».proof.Proof.Loads
public import proofs.«01_k».proof.Proof.Softmax

@[expose] public section

noncomputable section

namespace Cert.KernelIdeal

open Cert.KernelIdeal.Gen Cert.Softmax
open Idealize.ShloMosaic Idealize.ShloMosaic.TcCoe
open Idealize.SL.Sem

/-- The scores of a row of the batch and a head over a block of positions. -/
def score (q : Vec Ideal S16x1x16x64 .f32) (k : Vec Ideal S16x1024x16x64 .f32) (b h : Fin 16) (n : Fin 1024) : EReal :=
  (∑ d : Fin 64, q (ix4 b (0 : Fin 1) h d) * k (ix4 b n h d)) * Ideal.ofBits .f32 0x3E000000#32

/-- The word of −∞. -/
theorem ofBits_bot : Ideal.ofBits .f32 0xFF800000#32 = ⊥ := by decide +kernel

variable (m : (ℓ : Loc nD τ sig) → Buf (Elt Ideal) ℓ)

/-- A row's scores on a device. -/
abbrev sc (c : Dev nD) (j : Fin 8) (h : Fin 16) : Fin 1024 → EReal := score (argQ m c) (argK m c) (rowIx c j) h

/-- A row's largest score. -/
theorem maxAt_at (c : Dev nD) (j : Fin 8) (h : Fin 16) :
    maxAt m c j (ix3 (0 : Fin 1) (0 : Fin 1) h) = Finset.univ.fold max ⊥ (sc m c j h) := by
  pointwise [maxAt, rowM, k0_pay8, k0_pay5, k0_pay4, k0_pay2, k0_pay3]
  rw [ofBits_bot]
  simp only [qrow_at, krow_at]
  rfl

/-- A row's sum of exponentials. -/
theorem sumAt_at (c : Dev nD) (j : Fin 8) (h : Fin 16) :
    sumAt m c j (ix3 (0 : Fin 1) (0 : Fin 1) h) = den (sc m c j h) := by
  pointwise [sumAt, rowL, k0_pay62, k0_pay61, k0_pay58, k0_pay57, k0_pay56]
  rw [ofBits_bot]
  simp only [qrow_at, krow_at]
  rfl

/-- A row's numerators. -/
theorem numAt_at (c : Dev nD) (j : Fin 8) (h : Fin 16) (d : Fin 64) :
    numAt m c j (ix3 (0 : Fin 1) h d) = num (sc m c j h) fun k => argV m c (ix4 (rowIx c j) k h d) := by
  pointwise [numAt, rowN, k0_pay7, k0_pay6, k0_pay5, k0_pay4, k0_pay2, k0_pay3]
  rw [ofBits_bot]
  simp only [qrow_at, krow_at, vrow_at]
  rfl

/-- The merge of the two halves' statistics and numerators, element by element. -/
theorem pay_at (m₀ l₀ m₁ l₁ : Vec Ideal S1x16x16 .f32) (n₀ n₁ : Vec Ideal S16x16x64 .f32) (b h : Fin 16) (d : Fin 64) :
    k0_pay1 (k0_pay63 m₀ l₀ m₁ l₁ n₀ n₁) (ix4 b (0 : Fin 1) h d)
      = Ideal.div
        (Ideal.exp (m₀ (ix3 (0 : Fin 1) b h) - max (m₀ (ix3 (0 : Fin 1) b h)) (m₁ (ix3 (0 : Fin 1) b h))) * n₀ (ix3 b h d)
          + Ideal.exp (m₁ (ix3 (0 : Fin 1) b h) - max (m₀ (ix3 (0 : Fin 1) b h)) (m₁ (ix3 (0 : Fin 1) b h))) * n₁ (ix3 b h d))
        (Ideal.exp (m₀ (ix3 (0 : Fin 1) b h) - max (m₀ (ix3 (0 : Fin 1) b h)) (m₁ (ix3 (0 : Fin 1) b h))) * l₀ (ix3 (0 : Fin 1) b h)
          + Ideal.exp (m₁ (ix3 (0 : Fin 1) b h) - max (m₀ (ix3 (0 : Fin 1) b h)) (m₁ (ix3 (0 : Fin 1) b h))) * l₁ (ix3 (0 : Fin 1) b h)) := by
  pointwise [k0_pay1, k0_pay63]

/-- The device that computes row `b` of the batch over block `y`, at its place there, computes row `b`. -/
theorem rowIx_of (b : Fin 16) (y : Fin 2) : rowIx (dxy (hi16 b) y) (lo16 b) = b := by
  revert b y; decide

/-- The scores of row `b` over block `y`, and the values there. -/
abbrev scB (y : Fin 2) (b h : Fin 16) : Fin 1024 → EReal := score (argQ m (dxy (hi16 b) y)) (argK m (dxy (hi16 b) y)) b h
abbrev vaB (y : Fin 2) (b h : Fin 16) (d : Fin 64) : Fin 1024 → EReal := fun k => argV m (dxy (hi16 b) y) (ix4 b k h d)

/-- The loads of the two planes of the statistics, and of all the numerators. -/
theorem plane0_at (X : Vec Ideal S2x16x16 .f32) (b h : Fin 16) :
    sM.view.readAt (Elt Ideal) plane0.toLoadRect X (ix3 (0 : Fin 1) b h) = X (ix3 (0 : Fin 2) b h) := by
  refine congrArg X (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem plane1_at (X : Vec Ideal S2x16x16 .f32) (b h : Fin 16) :
    sM.view.readAt (Elt Ideal) plane1.toLoadRect X (ix3 (0 : Fin 1) b h) = X (ix3 (1 : Fin 2) b h) := by
  refine congrArg X (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem allN_at (X : Vec Ideal S16x16x64 .f32) (b h : Fin 16) (d : Fin 64) :
    nM.view.readAt (Elt Ideal) allN.toLoadRect X (ix3 b h d) = X (ix3 b h d) := by
  refine congrArg X (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The gathered largest scores, sums and numerators over block `y`. -/
theorem max_plane (y : Fin 2) (b h : Fin 16) :
    sM.view.readAt (Elt Ideal) plane0.toLoadRect (accS m y) (ix3 (0 : Fin 1) b h) = Finset.univ.fold max ⊥ (scB m y b h) := by
  have e : accS m y (ix3 (0 : Fin 2) b h) = maxAt m (dxy (hi16 b) y) (lo16 b) (ix3 0 0 h) := if_pos rfl
  rw [plane0_at, e, maxAt_at]
  show Finset.univ.fold max ⊥ (score _ _ (rowIx (dxy (hi16 b) y) (lo16 b)) h) = _
  rw [rowIx_of]
theorem sum_plane (y : Fin 2) (b h : Fin 16) :
    sM.view.readAt (Elt Ideal) plane1.toLoadRect (accS m y) (ix3 (0 : Fin 1) b h) = den (scB m y b h) := by
  have e : accS m y (ix3 (1 : Fin 2) b h) = sumAt m (dxy (hi16 b) y) (lo16 b) (ix3 0 0 h) := if_neg Nat.one_ne_zero
  rw [plane1_at, e, sumAt_at]
  show den (score _ _ (rowIx (dxy (hi16 b) y) (lo16 b)) h) = _
  rw [rowIx_of]
theorem num_all (y : Fin 2) (b h : Fin 16) (d : Fin 64) :
    nM.view.readAt (Elt Ideal) allN.toLoadRect (accN m y) (ix3 b h d) = num (scB m y b h) (vaB m y b h d) := by
  have e : accN m y (ix3 b h d) = numAt m (dxy (hi16 b) y) (lo16 b) (ix3 0 h d) := rfl
  rw [allN_at, e, numAt_at]
  show num (score _ _ (rowIx (dxy (hi16 b) y) (lo16 b)) h) (fun k => argV m _ (ix4 (rowIx (dxy (hi16 b) y) (lo16 b)) k h d)) = _
  rw [rowIx_of]

/-- The kernel's result on device `c`: its own block merged with the other. -/
theorem outAt_at (c : Dev nD) (b h : Fin 16) (d : Fin 64) :
    outAt m c (ix4 b (0 : Fin 1) h d)
      = merge (scB m (yOf c) b h) (vaB m (yOf c) b h d) (scB m (1 - yOf c) b h) (vaB m (1 - yOf c) b h d) := by
  unfold outAt
  refine (pay_at _ _ _ _ _ _ b h d).trans ?_
  have e0 : rsM.view.readAt (Elt Ideal) plane0.toLoadRect (accS m (1 - yOf c)) (ix3 (0 : Fin 1) b h) = Finset.univ.fold max ⊥ (scB m (1 - yOf c) b h) := max_plane m _ b h
  have e1 : rsM.view.readAt (Elt Ideal) plane1.toLoadRect (accS m (1 - yOf c)) (ix3 (0 : Fin 1) b h) = den (scB m (1 - yOf c) b h) := sum_plane m _ b h
  have e2 : rnM.view.readAt (Elt Ideal) allN.toLoadRect (accN m (1 - yOf c)) (ix3 b h d) = num (scB m (1 - yOf c) b h) (vaB m (1 - yOf c) b h d) := num_all m _ b h d
  rw [max_plane, sum_plane, num_all, e0, e1, e2]
  rfl

/-- So the result is the same on every device: block 0 merged with block 1. -/
theorem outAt_eq (c : Dev nD) (b h : Fin 16) (d : Fin 64) :
    outAt m c (ix4 b (0 : Fin 1) h d) = merge (scB m 0 b h) (vaB m 0 b h d) (scB m 1 b h) (vaB m 1 b h d) := by
  rw [outAt_at]
  have hy : yOf c = 0 ∧ 1 - yOf c = 1 ∨ yOf c = 1 ∧ 1 - yOf c = 0 := by revert c; decide
  rcases hy with ⟨h0, h1⟩ | ⟨h0, h1⟩
  · rw [h1, h0]
  · rw [h1, h0, merge_comm]

end Cert.KernelIdeal

end
-- ==== Proof.RValue.lean ====
/-
  The reference's result, element by element, at the extended reals: the average of the values weighted by the softmax
  of the scores, over all positions at once.
-/
module

public import proofs.«01_k».proof.Proof.Gen.ReferenceIdeal
public import proofs.«01_k».proof.Proof.Gen.ReferenceIdeal.Run
public import proofs.«01_k».proof.Proof.Softmax
public import Idealize.ShloMosaic.Lib.Pointwise

@[expose] public section

noncomputable section

namespace Cert.ReferenceIdeal

open Cert.ReferenceIdeal.Gen Cert.Softmax Facts
open Idealize.ShloMosaic Idealize.ShloMosaic.TcCoe
open Idealize.SL.Sem

/-- The scores of a row of the batch and a head over all positions. -/
def score (q : FVec Ideal S16x1x16x64 .f32) (k : FVec Ideal S16x2048x16x64 .f32) (b h : Fin 16) (n : Fin 2048) : EReal :=
  (∑ d : Fin 64, q (ix4 b (0 : Fin 1) h d) * k (ix4 b n h d)) * Ideal.ofBits .f32 0x3E000000#32

/-- The word of −∞. -/
theorem ofBits_bot : Ideal.ofBits .f32 0xFF800000#32 = ⊥ := by decide +kernel

/-- The array of scores. -/
def scores (q : FVec Ideal S16x1x16x64 .f32) (k : FVec Ideal S16x2048x16x64 .f32) : FVec Ideal S16x16x1x2048 .f32 :=
  mulf (Host.dotGeneral dot_S16x1x16x64_S16x2048x16x64_S16x16x1x2048_3_3_1_1_02_02 none q k) (broadcastInDim S16x16x1x2048 ![] bcast_S_S16x16x1x2048 (constant S_ .f32 0x3E000000#32))
/-- The exponentials of an array's distances to its rows' largest elements. -/
def exps (s : FVec Ideal S16x16x1x2048 .f32) : FVec Ideal S16x16x1x2048 .f32 :=
  Host.exp (subf s (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf s (constant S_ .f32 0xFF800000#32) reducesTo_S16x16x1x2048_S16x16x1_d3 h_S_))))
/-- An array divided by its rows' sums. -/
def shares (e : FVec Ideal S16x16x1x2048 .f32) : FVec Ideal S16x16x1x2048 .f32 :=
  Host.divf e (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd e (constant S_ .f32 0x00000000#32) reducesTo_S16x16x1x2048_S16x16x1_d3 h_S_)))
/-- The values summed under an array's weights. -/
def mix (v : FVec Ideal S16x2048x16x64 .f32) (p : FVec Ideal S16x16x1x2048 .f32) : FVec Ideal S16x1x16x64 .f32 :=
  transpose S16x1x16x64 [0, 3, 1, 2] (Host.dotGeneral dot_S16x2048x16x64_S16x16x1x2048_S16x16x64x1_1_3_3_2_02_01 none v p) transposes_S16x16x64x1_S16x1x16x64_0_3_1_2

/-- The reference's result. -/
def out (q : FVec Ideal S16x1x16x64 .f32) (k v : FVec Ideal S16x2048x16x64 .f32) : FVec Ideal S16x1x16x64 .f32 :=
  mix v (shares (exps (scores q k)))

theorem scores_at (q : FVec Ideal S16x1x16x64 .f32) (k : FVec Ideal S16x2048x16x64 .f32) (b h : Fin 16) (n : Fin 2048) :
    scores q k (ix4 b h (0 : Fin 1) n) = score q k b h n := by
  pointwise [scores, dot_S16x1x16x64_S16x2048x16x64_S16x16x1x2048_3_3_1_1_02_02]
  rfl

theorem exps_at (s : FVec Ideal S16x16x1x2048 .f32) (b h : Fin 16) (n : Fin 2048) :
    exps s (ix4 b h (0 : Fin 1) n)
      = Ideal.exp (s (ix4 b h (0 : Fin 1) n) - Finset.univ.fold max ⊥ fun x : Fin 2048 => s (ix4 b h (0 : Fin 1) x)) := by
  pointwise [exps]
  rw [ofBits_bot]

theorem shares_at (e : FVec Ideal S16x16x1x2048 .f32) (b h : Fin 16) (n : Fin 2048) :
    shares e (ix4 b h (0 : Fin 1) n) = Ideal.div (e (ix4 b h (0 : Fin 1) n)) (∑ x : Fin 2048, e (ix4 b h (0 : Fin 1) x)) := by
  pointwise [shares]

theorem mix_at (v : FVec Ideal S16x2048x16x64 .f32) (p : FVec Ideal S16x16x1x2048 .f32) (b h : Fin 16) (d : Fin 64) :
    mix v p (ix4 b (0 : Fin 1) h d) = ∑ x : Fin 2048, v (ix4 b x h d) * p (ix4 b h (0 : Fin 1) x) := by
  pointwise [mix, dot_S16x2048x16x64_S16x16x1x2048_S16x16x64x1_1_3_3_2_02_01]

/-- The reference's result at an element. -/
theorem out_at (q : FVec Ideal S16x1x16x64 .f32) (k v : FVec Ideal S16x2048x16x64 .f32) (b h : Fin 16) (d : Fin 64) :
    out q k v (ix4 b (0 : Fin 1) h d) = avg (score q k b h) (fun n => v (ix4 b n h d)) := by
  unfold out
  rw [mix_at]
  simp only [shares_at, exps_at, scores_at]
  rfl

/-- The reference's run: it ends with its result at the average and its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal

end
-- ==== Proof.Whole.lean ====
/-
  What the precondition says of the blocks, and the two programs' results compared: block 0 merged with block 1 is the
  average over all positions.
-/
module

public import proofs.«01_k».proof.Proof.KValue
public import proofs.«01_k».proof.Proof.RValue
public import proofs.«01_k».proof.Pre_scores_real_KernelIdeal
public import Idealize.ShloMosaic.Lib.ReduceAll
public import Idealize.ShloMosaic.Lib.Layout

@[expose] public section

noncomputable section

namespace Cert.Whole

open Cert.Softmax Idealize.ShloMosaic

/-- An extended real whose absolute value lies under +∞ is a real. -/
theorem real_of_abs (x : EReal) (h : max x (-x) < ⊤) : ∃ r : ℝ, x = r := by
  induction x with
  | bot => exact absurd (lt_of_le_of_lt (le_max_right _ _) h) (by simp)
  | top => exact absurd (lt_of_le_of_lt (le_max_left _ _) h) (by simp)
  | coe r => exact ⟨r, rfl⟩

/-- The word of +∞. -/
theorem ofBits_top : Ideal.ofBits .f32 0x7F800000#32 = ⊤ := by decide +kernel

/-- The predicate's comparison of an element, read back. -/
theorem real_of_cmp (x : EReal) (h : Ideal.cmp .olt (max x (-x)) (Ideal.ofBits .f32 0x7F800000#32) = 1#1) : ∃ r : ℝ, x = r := by
  refine real_of_abs x ?_
  rw [ofBits_top] at h
  by_contra hn
  have : Ideal.cmp .olt (max x (-x)) ⊤ = 0#1 := by
    show BitVec.ofBool (decide (max x (-x) < ⊤)) = 0#1
    rw [decide_eq_false hn]
    rfl
  rw [this] at h
  exact absurd h (by decide)

section Pre

variable [Cert.Pre_scores_real_KernelIdeal.Facts]

/-- Under the precondition every query and every key is a real. -/
theorem reals_of_pre (q : FVec Ideal Cert.Pre_scores_real_KernelIdeal.S16x1x16x64 .f32)
    (k v : FVec Ideal Cert.Pre_scores_real_KernelIdeal.S16x1024x16x64 .f32)
    (h : Cert.Pre_scores_real_KernelIdeal.fn (F := Ideal) q k v = fun _ => 1#1) :
    (∀ i, ∃ r : ℝ, q i = r) ∧ ∀ i, ∃ r : ℝ, k i = r := by
  have e := congrFun h (Shape.Idx.first Cert.Pre_scores_real_KernelIdeal.Facts.h_S_)
  unfold Cert.Pre_scores_real_KernelIdeal.fn at e
  obtain ⟨e0, e1⟩ := IntOp.andi_eq_one.1 e
  haveI : Subsingleton Cert.Pre_scores_real_KernelIdeal.S_.Idx := ⟨fun a b => funext fun d => d.elim0⟩
  exact ⟨fun i => real_of_cmp (q i) (Host.reduce_andi_all _ _ _ _ _ e0 i),
    fun i => real_of_cmp (k i) (Host.reduce_andi_all _ _ _ _ _ e1 i)⟩

end Pre

/-- The factor of the scores, a real. -/
theorem factor_real : ∃ r : ℝ, Ideal.ofBits .f32 0x3E000000#32 = r := by
  refine real_of_abs _ ?_
  decide +kernel

/-- A sum of products of reals, scaled, is a real. -/
theorem dot_real {ι : Type} [Fintype ι] (f g : ι → EReal) (hf : ∀ i, ∃ r : ℝ, f i = r) (hg : ∀ i, ∃ r : ℝ, g i = r) :
    ∃ r : ℝ, (∑ i, f i * g i) * Ideal.ofBits .f32 0x3E000000#32 = r := by
  choose f' hf using hf
  choose g' hg using hg
  obtain ⟨a, ha⟩ := factor_real
  refine ⟨(∑ i, f' i * g' i) * a, ?_⟩
  rw [ha, EReal.coe_mul, coe_sum]
  simp only [hf, hg, EReal.coe_mul]

/-- A position of block `y`, counted from the start. -/
def pos (y : Fin 2) (n : Fin 1024) : Fin 2048 := ⟨1024 * y.val + n.val, by omega⟩

/-- The positions are those of block 0 and those of block 1. -/
def split : Fin 1024 ⊕ Fin 1024 ≃ Fin 2048 := finSumFinEquiv

theorem split_inl (n : Fin 1024) : split (.inl n) = pos 0 n := by
  refine Fin.ext (Eq.trans (finSumFinEquiv_apply_left n ▸ rfl : (finSumFinEquiv (Sum.inl n) : Fin (1024 + 1024)).val = n.val) ?_)
  show n.val = 1024 * 0 + n.val
  omega
theorem split_inr (n : Fin 1024) : split (.inr n) = pos 1 n := by
  refine Fin.ext (Eq.trans (finSumFinEquiv_apply_right n ▸ rfl : (finSumFinEquiv (Sum.inr n) : Fin (1024 + 1024)).val = 1024 + n.val) ?_)
  show 1024 + n.val = 1024 * 1 + n.val
  omega

/-- The weighted average does not depend on how the positions are named. -/
theorem avg_equiv {ι κ : Type} [Fintype ι] [Fintype κ] (e : ι ≃ κ) (s v : κ → EReal) :
    avg s v = avg (fun i => s (e i)) (fun i => v (e i)) := by
  have hm : Finset.univ.fold max ⊥ s = Finset.univ.fold max ⊥ fun i => s (e i) := by
    rw [← Finset.univ_map_equiv_to_embedding e, Finset.fold_map]
    rfl
  unfold avg den
  rw [hm, ← Equiv.sum_comp e (fun i => v i * _), ← Equiv.sum_comp e (fun i => Ideal.exp _)]

/-- The average over all positions is block 0 merged with block 1, when the scores are reals. -/
theorem merge_blocks (s v : Fin 2048 → EReal) (hs : ∀ n, ∃ r : ℝ, s n = r) :
    merge (fun n => s (pos 0 n)) (fun n => v (pos 0 n)) (fun n => s (pos 1 n)) (fun n => v (pos 1 n)) = avg s v := by
  choose r hr using hs
  have hs : s = fun n => (r n : EReal) := funext hr
  subst hs
  rw [avg_equiv split]
  refine Eq.trans ?_ (merge_eq_avg (fun i => r (split i)) (fun i => v (split i)))
  simp only [split_inl, split_inr]

/-- A device's block of an array cut along the positions. -/
theorem block_at {α : Type} (X : (⟨4, ![16, 2048, 16, 64]⟩ : Shape).Idx → α) (c : Dev 4) (b : Fin 16) (n : Fin 1024) (h : Fin 16) (d : Fin 64) :
    Layout.blockN ⟨4, ![16, 1024, 16, 64]⟩ ⟨4, ![16, 2048, 16, 64]⟩ (Layout.meshBlock [2, 2] ![[], [1], [], []] c) X (by decide) (ix4 b n h d)
      = X (ix4 b (pos (Cert.KernelIdeal.yOf c) n) h d) := by
  have hc : Layout.meshLin [2, 2] c.val [1] = c.val % 2 := by revert c; decide
  refine congrArg X (funext fun a => Fin.ext ?_)
  match a with
  | ⟨0, _⟩ => show 0 * 16 + b.val = b.val; omega
  | ⟨1, _⟩ =>
    show Layout.meshLin [2, 2] c.val [1] * 1024 + n.val = 1024 * (c.val % 2) + n.val
    rw [hc]; omega
  | ⟨2, _⟩ => show 0 * 16 + h.val = h.val; omega
  | ⟨3, _⟩ => show 0 * 64 + d.val = d.val; omega

/-- An element's index by its row of the batch, its head and its feature. -/
theorem ix_eta (i : (⟨4, ![16, 1, 16, 64]⟩ : Shape).Idx) : i = ix4 (i 0) (0 : Fin 1) (i 2) (i 3) := by
  funext a
  match a with
  | ⟨0, _⟩ => rfl
  | ⟨1, _⟩ => exact Subsingleton.elim (α := Fin 1) _ _
  | ⟨2, _⟩ => rfl
  | ⟨3, _⟩ => rfl

/-- The two results are one: from devices that hold the queries `q` and the two blocks of the keys `k` and the values
    `v`, every query and every key a real, each device ends with the reference's result. -/
theorem out_eq [Cert.Pre_scores_real_KernelIdeal.Facts]
    (m : (ℓ : Loc Cert.KernelIdeal.nD Cert.KernelIdeal.τ Cert.KernelIdeal.sig) → Buf (Elt Ideal) ℓ)
    (q : FVec Ideal Cert.ReferenceIdeal.S16x1x16x64 .f32) (k v : FVec Ideal Cert.ReferenceIdeal.S16x2048x16x64 .f32)
    (hp : ∀ c, Cert.Pre_scores_real_KernelIdeal.fn (F := Ideal) (Cert.KernelIdeal.argQ m c) (Cert.KernelIdeal.argK m c) (Cert.KernelIdeal.argV m c) = fun _ => 1#1)
    (hq : ∀ c, Cert.KernelIdeal.argQ m c = q)
    (hk : ∀ c, Cert.KernelIdeal.argK m c = Layout.blockN ⟨4, ![16, 1024, 16, 64]⟩ ⟨4, ![16, 2048, 16, 64]⟩ (Layout.meshBlock [2, 2] ![[], [1], [], []] c) k)
    (hv : ∀ c, Cert.KernelIdeal.argV m c = Layout.blockN ⟨4, ![16, 1024, 16, 64]⟩ ⟨4, ![16, 2048, 16, 64]⟩ (Layout.meshBlock [2, 2] ![[], [1], [], []] c) v)
    (c : Dev Cert.KernelIdeal.nD) : Cert.KernelIdeal.outAt m c = Cert.ReferenceIdeal.out q k v := by
  have hy : ∀ (b : Fin 16) (y : Fin 2), Cert.KernelIdeal.yOf (Cert.KernelIdeal.dxy (Cert.KernelIdeal.hi16 b) y) = y := by decide
  have kAt : ∀ b y n h d, Cert.KernelIdeal.argK m (Cert.KernelIdeal.dxy (Cert.KernelIdeal.hi16 b) y) (ix4 b n h d) = k (ix4 b (pos y n) h d) :=
    fun b y n h d => by rw [hk, block_at, hy]
  have vAt : ∀ b y n h d, Cert.KernelIdeal.argV m (Cert.KernelIdeal.dxy (Cert.KernelIdeal.hi16 b) y) (ix4 b n h d) = v (ix4 b (pos y n) h d) :=
    fun b y n h d => by rw [hv, block_at, hy]
  have sAt : ∀ y b h, Cert.KernelIdeal.scB m y b h = fun n => Cert.ReferenceIdeal.score q k b h (pos y n) := fun y b h => by
    funext n
    unfold Cert.KernelIdeal.scB Cert.KernelIdeal.score Cert.ReferenceIdeal.score
    simp only [hq, kAt]
  have wAt : ∀ y b h d, Cert.KernelIdeal.vaB m y b h d = fun n => v (ix4 b (pos y n) h d) := fun y b h d => funext fun n => vAt b y n h d
  have hr : ∀ b h n, ∃ r : ℝ, Cert.ReferenceIdeal.score q k b h n = r := fun b h n => by
    refine dot_real _ _ (fun d => ?_) fun d => ?_
    · rw [← hq 0]
      exact (reals_of_pre _ _ _ (hp 0)).1 _
    · obtain ⟨s, rfl⟩ := split.surjective n
      rcases s with n | n
      · rw [split_inl, ← kAt b 0 n h d]
        exact (reals_of_pre _ _ _ (hp _)).2 _
      · rw [split_inr, ← kAt b 1 n h d]
        exact (reals_of_pre _ _ _ (hp _)).2 _
  have el : ∀ b h d, Cert.KernelIdeal.outAt m c (ix4 b (0 : Fin 1) h d) = Cert.ReferenceIdeal.out q k v (ix4 b (0 : Fin 1) h d) := fun b h d => by
    refine (Cert.KernelIdeal.outAt_eq m c b h d).trans ?_
    rw [sAt, sAt, wAt, wAt]
    exact (merge_blocks (Cert.ReferenceIdeal.score q k b h) (fun n => v (ix4 b n h d)) (hr b h)).trans
      (Cert.ReferenceIdeal.out_at q k v b h d).symm
  funext i
  rw [ix_eta i]
  exact el (i 0) (i 2) (i 3)

end Cert.Whole

end
-- ==== Proof.lean ====
/-
  The claims: both programs and the reference run to a quiet end with their arguments unchanged, the kernel read at
  the extended reals is the kernel's own text, and its result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_scores_real_KernelIdeal
public import proofs.«01_k».proof.Proof.Gen.Pre_scores_real_ReferenceIdeal
public import proofs.«01_k».proof.Proof.Run
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The run of the kernel with its result dropped: at any float values it ends with its arguments unchanged and every
    counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c => (h.1 c).2, h.2⟩) (Cert.KernelIdeal.run_main m ρ)

/-- The two programs' kernel bodies, at bit patterns, are the same table. -/
theorem body_table : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So are their whole tables. -/
theorem table : Cert.Kernel.defs (F := Bits) = Cert.KernelIdeal.defs (F := Bits) :=
  congrArg (Pipeline.defs Cert.KernelIdeal.pcfgs) body_table

/-- The kernel, at bit patterns, ends quiet with its arguments unchanged. -/
theorem frame_kernel : Cert.quiescent_Kernel := fun m ρ _ => by
  rw [table]
  exact frame_any (F := Bits) m ρ

/-- The kernel, at the extended reals, ends quiet with its arguments unchanged. -/
theorem frame_ideal : Cert.quiescent_KernelIdeal := fun m ρ _ => frame_any (F := Ideal) m ρ

/-- The reference, at the extended reals, ends quiet with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the starts that meet the precondition. -/
theorem frame_ideal_pre : Cert.quiescent_KernelIdeal_pre_scores_real_KernelIdeal := fun m ρ _ => frame_any (F := Ideal) m ρ
theorem frame_reference_pre : Cert.quiescent_ReferenceIdeal_pre_scores_real_ReferenceIdeal := fun m ρ _ => frame_reference m ρ trivial

/-- The kernel and the reference end with one result, the same on every device. -/
theorem same_result : Cert.algebraic_KernelIdeal_ReferenceIdeal_pre_scores_real_KernelIdeal := fun m g m' g' hp hb =>
  ⟨_, (θ_run Cert.KernelIdeal.defs _ _).mono
      (fun _ h c => ⟨(h.1 c).1.trans (Cert.Whole.out_eq m _ _ _ hp (fun c => (hb c).1) (fun c => (hb c).2.1) (fun c => (hb c).2.2) c), (h.1 c).2⟩)
      (Cert.KernelIdeal.run_main m g),
    (θ_run Cert.ReferenceIdeal.defs _ _).mono (fun _ h => h 0) (Cert.ReferenceIdeal.run_out m' g')⟩

theorem claim : Cert.Claim := ⟨Cert.Kernel.Gen.facts, Cert.KernelIdeal.Gen.facts, Cert.ReferenceIdeal.Gen.facts,
  Cert.Pre_scores_real_KernelIdeal.Gen.facts, Cert.Pre_scores_real_ReferenceIdeal.Gen.facts,
  frame_kernel, frame_ideal, frame_ideal_pre, frame_reference, frame_reference_pre, trivial, same_result⟩

end Cert.Proof

end
